-- ==== Defs.lean ====
def Pre_Kernel (m : (ℓ : Loc Cert.Kernel.nD Cert.Kernel.τ Cert.Kernel.sig) → Buf (Elt Bits) ℓ) : Prop :=
  True

def Pre_Kernel_nearest_unique [hPre_nearest_unique : Cert.Pre_nearest_unique.Facts] (m : (ℓ : Loc Cert.Kernel.nD Cert.Kernel.τ Cert.Kernel.sig) → Buf (Elt Bits) ℓ) : Prop :=
  ∀ c : Dev Cert.Kernel.nD,
    (Cert.Pre_nearest_unique.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_nearest_unique : Cert.Pre_nearest_unique.Facts] (m : (ℓ : Loc Cert.KernelIdeal.nD Cert.KernelIdeal.τ Cert.KernelIdeal.sig) → Buf (Elt Ideal) ℓ) : Prop :=
  ∀ c : Dev Cert.KernelIdeal.nD,
    (Cert.Pre_nearest_unique.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nearest_unique [hPre_nearest_unique : Cert.Pre_nearest_unique.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nearest_unique.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_nearest_unique [hKernel : Cert.Kernel.Facts] [hPre_nearest_unique : Cert.Pre_nearest_unique.Facts] : Prop :=
  ∀ (m : (ℓ : Loc Cert.Kernel.nD Cert.Kernel.τ Cert.Kernel.sig) → Buf (Elt Bits) ℓ) (g : Dev Cert.Kernel.nD → PrngReg), Pre_Kernel_nearest_unique m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_nearest_unique : Cert.Pre_nearest_unique.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_nearest_unique [hReferenceIdeal : Cert.ReferenceIdeal.Facts] [hPre_nearest_unique : Cert.Pre_nearest_unique.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nearest_unique m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_nearest_unique : Cert.Pre_nearest_unique.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v22)) (v4 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v22) = v3 c
          ∧ r.2.mem ((c.tc : Thread Cert.KernelIdeal.nD Cert.KernelIdeal.τ).loc Cert.KernelIdeal.main_v7) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_v48) = v3 c
          ∧ r.2.mem ((c.tc : Thread Cert.ReferenceIdeal.nD Cert.ReferenceIdeal.τ).loc Cert.ReferenceIdeal.main_v37) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_nearest_unique : Cert.Pre_nearest_unique.Facts),
    quiescent_Kernel (hKernel := hKernel)
    ∧ quiescent_Kernel_pre_nearest_unique (hKernel := hKernel) (hPre_nearest_unique := hPre_nearest_unique)
    ∧ quiescent_KernelIdeal (hKernelIdeal := hKernelIdeal) (hPre_nearest_unique := hPre_nearest_unique)
    ∧ quiescent_ReferenceIdeal (hReferenceIdeal := hReferenceIdeal)
    ∧ quiescent_ReferenceIdeal_pre_nearest_unique (hReferenceIdeal := hReferenceIdeal) (hPre_nearest_unique := hPre_nearest_unique)
    ∧ preserves_Kernel_KernelIdeal
    ∧ algebraic_KernelIdeal_ReferenceIdeal (hKernelIdeal := hKernelIdeal) (hReferenceIdeal := hReferenceIdeal) (hPre_nearest_unique := hPre_nearest_unique)
-- ==== Pre_nearest_unique.lean ====
abbrev S16x32x8192 : Shape := ⟨3, ![16, 32, 8192]⟩
abbrev S512x32 : Shape := ⟨2, ![512, 32]⟩
abbrev S_ : Shape := ⟨0, ![]⟩
abbrev S16x8192x32 : Shape := ⟨3, ![16, 8192, 32]⟩
abbrev S131072x32 : Shape := ⟨2, ![131072, 32]⟩
abbrev S512 : Shape := ⟨1, ![512]⟩
abbrev S131072 : Shape := ⟨1, ![131072]⟩
abbrev S131072x1 : Shape := ⟨2, ![131072, 1]⟩
abbrev S32x512 : Shape := ⟨2, ![32, 512]⟩
abbrev S131072x512 : Shape := ⟨2, ![131072, 512]⟩
abbrev S1x512 : Shape := ⟨2, ![1, 512]⟩

class Facts : Prop where
  bcast_S_S16x32x8192 : S_.BroadcastsInDim S16x32x8192 (![] : Fin 0 → Fin S16x32x8192.rank)
  reducesTo_S16x32x8192_S_d0_1_2 : S16x32x8192.ReducesTo [0, 1, 2] S_
  h_S_ : 0 < S_.numel
  bcast_S_S512x32 : S_.BroadcastsInDim S512x32 (![] : Fin 0 → Fin S512x32.rank)
  reducesTo_S512x32_S_d0_1 : S512x32.ReducesTo [0, 1] S_
  transposes_S16x32x8192_S16x8192x32_0_2_1 : S16x32x8192.Transposes [0, 2, 1] S16x8192x32
  shapeCasts_S16x8192x32_S131072x32 : S16x8192x32.ShapeCasts S131072x32
  reducesTo_S512x32_S512_d1 : S512x32.ReducesTo [1] S512
  reducesTo_S131072x32_S131072_d1 : S131072x32.ReducesTo [1] S131072
  bcast_S131072_S131072x1_0 : S131072.BroadcastsInDim S131072x1 (![0] : Fin 1 → Fin S131072x1.rank)
  transposes_S512x32_S32x512_1_0 : S512x32.Transposes [1, 0] S32x512
  bcast_S_S131072x512 : S_.BroadcastsInDim S131072x512 (![] : Fin 0 → Fin S131072x512.rank)
  bcast_S131072x1_S131072x512_0_1 : S131072x1.BroadcastsInDim S131072x512 (![0, 1] : Fin 2 → Fin S131072x512.rank)
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  reducesTo_S131072x512_S131072_d1 : S131072x512.ReducesTo [1] S131072
  natLt_1_32 : 1 < 32
  bcast_S_S131072 : S_.BroadcastsInDim S131072 (![] : Fin 0 → Fin S131072.rank)
  reducesTo_S131072_S_d0 : S131072.ReducesTo [0] S_
  dot_S131072x32_S32x512_S131072x512_1_0_0_1_n_n_wf : DotDims.WF S131072x32 S32x512 S131072x512 [1] [0] [0] [1] [] []

variable [Facts]

def dot_S131072x32_S32x512_S131072x512_1_0_0_1_n_n : DotDims S131072x32 S32x512 S131072x512 where
  lhsContracting := [1]
  rhsContracting := [0]
  lhsNonContracting := [0]
  rhsNonContracting := [1]
  lhsBatch := []
  rhsBatch := []
  wf := dot_S131072x32_S32x512_S131072x512_1_0_0_1_n_n_wf
def fn_part1 {F : FTy → Type} [FloatOps F] (main_v8 : IVec S_ 1) (main_v12 : FVec F S512 .f32) (main_v15 : FVec F S131072x1 .f32) (main_v17 : FVec F S131072x512 .f32) : IVec S_ 1 :=
  let main_cst_4 : FVec F S_ .f32 := constant S_ .f32 0x40000000#32
  let main_v18 : FVec F S131072x512 .f32 := broadcastInDim S131072x512 ![] bcast_S_S131072x512 main_cst_4
  let main_v19 : FVec F S131072x512 .f32 := mulf main_v18 main_v17
  let main_v20 : FVec F S131072x512 .f32 := broadcastInDim S131072x512 ![0, 1] bcast_S131072x1_S131072x512_0_1 main_v15
  let main_v21 : FVec F S131072x512 .f32 := subf main_v20 main_v19
  let main_v22 : FVec F S1x512 .f32 := broadcastInDim S1x512 ![1] bcast_S512_S1x512_1 main_v12
  let main_v23 : FVec F S131072x512 .f32 := broadcastInDim S131072x512 ![0, 1] bcast_S1x512_S131072x512_0_1 main_v22
  let main_v24 : FVec F S131072x512 .f32 := addf main_v21 main_v23
  let main_cst_5 : FVec F S_ .f32 := constant S_ .f32 0x7F800000#32
  let main_v25 : FVec F S131072 .f32 := (fun x v => Host.reduce FloatOps.minimumf x v reducesTo_S131072x512_S131072_d1 h_S_) main_v24 main_cst_5
  let main_v26 : FVec F S131072x1 .f32 := broadcastInDim S131072x1 ![0] bcast_S131072_S131072x1_0 main_v25
  let main_v27 : FVec F S131072x512 .f32 := broadcastInDim S131072x512 ![0, 1] bcast_S131072x1_S131072x512_0_1 main_v26
  let main_v28 : IVec S131072x512 1 := cmpf .oeq main_v24 main_v27
  let main_v29 : IVec S131072x512 32 := (extui 32 · natLt_1_32) main_v28
  let main_c_6 : IVec S_ 32 := constantI S_ 32 0#32
  let main_v30 : IVec S131072 32 := (fun x v => Host.reduce IntOp.addi x v reducesTo_S131072x512_S131072_d1 h_S_) main_v29 main_c_6
  let main_c_7 : IVec S_ 32 := constantI S_ 32 1#32
  let main_v31 : IVec S131072 32 := broadcastInDim S131072 ![] bcast_S_S131072 main_c_7
  let main_v32 : IVec S131072 1 := cmpi .eq main_v30 main_v31
  let main_c_8 : IVec S_ 1 := constantI S_ 1 1#1
  let main_v33 : IVec S_ 1 := (fun x v => Host.reduce IntOp.andi x v reducesTo_S131072_S_d0 h_S_) main_v32 main_c_8
  let main_v34 : IVec S_ 1 := andi main_v8 main_v33
  main_v34

def fn {F : FTy → Type} [FloatOps F] (main_arg0 : FVec F S16x32x8192 .f32) (main_arg1 : FVec F S512x32 .f32) : IVec S_ 1 :=
  let main_v0 : FVec F S16x32x8192 .f32 := Host.absf main_arg0
  let main_cst : FVec F S_ .f32 := constant S_ .f32 0x7F800000#32
  let main_v1 : FVec F S16x32x8192 .f32 := broadcastInDim S16x32x8192 ![] bcast_S_S16x32x8192 main_cst
  let main_v2 : IVec S16x32x8192 1 := cmpf .olt main_v0 main_v1
  let main_c : IVec S_ 1 := constantI S_ 1 1#1
  let main_v3 : IVec S_ 1 := (fun x v => Host.reduce IntOp.andi x v reducesTo_S16x32x8192_S_d0_1_2 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S16x8192x32 .f32 := (transpose S16x8192x32 [0, 2, 1] · transposes_S16x32x8192_S16x8192x32_0_2_1) main_arg0
  let main_v10 : FVec F S131072x32 .f32 := shapeCast S131072x32 main_v9 shapeCasts_S16x8192x32_S131072x32
  let main_v11 : FVec F S512x32 .f32 := mulf main_arg1 main_arg1
  let main_cst_2 : FVec F S_ .f32 := constant S_ .f32 0x00000000#32
  let main_v12 : FVec F S512 .f32 := (fun x v => Host.reduceAdd x v reducesTo_S512x32_S512_d1 h_S_) main_v11 main_cst_2
  let main_v13 : FVec F S131072x32 .f32 := mulf main_v10 main_v10
  let main_cst_3 : FVec F S_ .f32 := constant S_ .f32 0x00000000#32
  let main_v14 : FVec F S131072 .f32 := (fun x v => Host.reduceAdd x v reducesTo_S131072x32_S131072_d1 h_S_) main_v13 main_cst_3
  let main_v15 : FVec F S131072x1 .f32 := broadcastInDim S131072x1 ![0] bcast_S131072_S131072x1_0 main_v14
  let main_v16 : FVec F S32x512 .f32 := (transpose S32x512 [1, 0] · transposes_S512x32_S32x512_1_0) main_arg1
  let main_v17 : FVec F S131072x512 .f32 := (fun l r => Host.dotGeneral dot_S131072x32_S32x512_S131072x512_1_0_0_1_n_n none l r) main_v10 main_v16
  fn_part1 (F := F) main_v8 main_v12 main_v15 main_v17
-- ==== Kernel.lean ====
abbrev S16x32x8192 : Shape := ⟨3, ![16, 32, 8192]⟩
abbrev S512x32 : Shape := ⟨2, ![512, 32]⟩
abbrev S512x64 : Shape := ⟨2, ![512, 64]⟩
abbrev S16x1x8192 : Shape := ⟨3, ![16, 1, 8192]⟩
abbrev S1x512 : Shape := ⟨2, ![1, 512]⟩
abbrev S1x128 : Shape := ⟨2, ![1, 128]⟩
abbrev S1x32x8192 : Shape := ⟨3, ![1, 32, 8192]⟩
abbrev S1x1x8192 : Shape := ⟨3, ![1, 1, 8192]⟩
abbrev S32x8192 : Shape := ⟨2, ![32, 8192]⟩
abbrev S512 : Shape := ⟨1, ![512]⟩
abbrev S8192 : Shape := ⟨1, ![8192]⟩
abbrev S512x8192 : Shape := ⟨2, ![512, 8192]⟩
abbrev S1x8192 : Shape := ⟨2, ![1, 8192]⟩
abbrev S512x1 : Shape := ⟨2, ![512, 1]⟩
abbrev S64x8192 : Shape := ⟨2, ![64, 8192]⟩
abbrev S1 : Shape := ⟨1, ![1]⟩
abbrev S1x1x1 : Shape := ⟨3, ![1, 1, 1]⟩
abbrev S128 : Shape := ⟨1, ![128]⟩
abbrev S16x8192 : Shape := ⟨2, ![16, 8192]⟩
abbrev S1x1 : Shape := ⟨2, ![1, 1]⟩
abbrev S_ : Shape := ⟨0, ![]⟩

abbrev nBuf : Space → Nat
  | .hbm => 34
  | .vmem => 10
  | .smem => 0
  | _ => 0

abbrev bufTy : (tb : Table) → Fin (tcTables nBuf tb) → BufTy
  | .hbm, ⟨0, _⟩ => ⟨S16x32x8192, .f32⟩
  | .hbm, ⟨1, _⟩ => ⟨S512x32, .f32⟩
  | .hbm, ⟨2, _⟩ => ⟨S512x32, .bf16⟩
  | .hbm, ⟨3, _⟩ => ⟨S512x32, .f32⟩
  | .hbm, ⟨4, _⟩ => ⟨S512x32, .f32⟩
  | .hbm, ⟨5, _⟩ => ⟨S512x32, .bf16⟩
  | .hbm, ⟨6, _⟩ => ⟨S512x64, .bf16⟩
  | .hbm, ⟨7, _⟩ => ⟨S16x32x8192, .f32⟩
  | .hbm, ⟨8, _⟩ => ⟨S16x1x8192, .i32⟩
  | .hbm, ⟨9, _⟩ => ⟨S1x512, .f32⟩
  | .hbm, ⟨10, _⟩ => ⟨S1x128, .f32⟩
  | .hbm, ⟨11, _⟩ => ⟨S16x8192, .i32⟩
  | .hbm, ⟨12, _⟩ => ⟨S512, .f32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S_, .f32⟩
  | .hbm, ⟨26, _⟩ => ⟨S512, .f32⟩
  | .hbm, ⟨27, _⟩ => ⟨S512, .f32⟩
  | .hbm, ⟨28, _⟩ => ⟨S512, .f32⟩
  | .hbm, ⟨29, _⟩ => ⟨S512, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S1x32x8192, .f32⟩
  | .local _ .vmem, ⟨1, _⟩ => ⟨S1x32x8192, .f32⟩
  | .local _ .vmem, ⟨2, _⟩ => ⟨S512x32, .f32⟩
  | .local _ .vmem, ⟨3, _⟩ => ⟨S512x64, .bf16⟩
  | .local _ .vmem, ⟨4, _⟩ => ⟨S1x32x8192, .f32⟩
  | .local _ .vmem, ⟨5, _⟩ => ⟨S1x32x8192, .f32⟩
  | .local _ .vmem, ⟨6, _⟩ => ⟨S1x1x8192, .i32⟩
  | .local _ .vmem, ⟨7, _⟩ => ⟨S1x1x8192, .i32⟩
  | .local _ .vmem, ⟨8, _⟩ => ⟨S1x512, .f32⟩
  | .local _ .vmem, ⟨9, _⟩ => ⟨S1x128, .f32⟩
  | _, _ => ⟨S16x32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev main_v5_2 : Ref sig .tc := ⟨.hbm, 9, rfl⟩
abbrev main_v5_3 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v48 : BitVec 1 := Scalar.cmpi .eq arg0 c0_i32
  let v49 : BitVec 32 := Scalar.extui v48
  let c0_i32_19 : BitVec 32 := 0#32
  let v50 : BitVec 1 := Scalar.cmpi .ne v49 c0_i32_19
  v50

def k0_cond2 (i : grid0.Coords) : BitVec 1 :=
  let arg0 : BitVec 32 := BitVec.ofNat 32 (i 0).val
  let c0_i32_20 : BitVec 32 := 0#32
  let v51 : BitVec 1 := Scalar.cmpi .sgt arg0 c0_i32_20
  let v52 : BitVec 32 := Scalar.extui v51
  let c0_i32_21 : BitVec 32 := 0#32
  let v53 : BitVec 1 := Scalar.cmpi .ne v52 c0_i32_21
  v53

def cc0_transform_0 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x32x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x32x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x8192 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S16x32x8192 : Shape := ⟨3, ![16, 32, 8192]⟩
abbrev S512x32 : Shape := ⟨2, ![512, 32]⟩
abbrev S16x8192x32 : Shape := ⟨3, ![16, 8192, 32]⟩
abbrev S131072x32 : Shape := ⟨2, ![131072, 32]⟩
abbrev S_ : Shape := ⟨0, ![]⟩
abbrev S512 : Shape := ⟨1, ![512]⟩
abbrev S131072 : Shape := ⟨1, ![131072]⟩
abbrev S131072x1 : Shape := ⟨2, ![131072, 1]⟩
abbrev S32x512 : Shape := ⟨2, ![32, 512]⟩
abbrev S131072x512 : Shape := ⟨2, ![131072, 512]⟩
abbrev S1x512 : Shape := ⟨2, ![1, 512]⟩
abbrev S1 : Shape := ⟨1, ![1]⟩
abbrev S1x1 : Shape := ⟨2, ![1, 1]⟩
abbrev S16x8192 : Shape := ⟨2, ![16, 8192]⟩

abbrev nBuf : Space → Nat
  | .hbm => 95
  | .vmem => 0
  | .smem => 0
  | _ => 0

abbrev bufTy : (tb : Table) → Fin (tcTables nBuf tb) → BufTy
  | .hbm, ⟨0, _⟩ => ⟨S16x32x8192, .f32⟩
  | .hbm, ⟨1, _⟩ => ⟨S512x32, .f32⟩
  | .hbm, ⟨2, _⟩ => ⟨S16x8192x32, .f32⟩
  | .hbm, ⟨3, _⟩ => ⟨S131072x32, .f32⟩
  | .hbm, ⟨4, _⟩ => ⟨S512x32, .f32⟩
  | .hbm, ⟨5, _⟩ => ⟨S_, .f32⟩
  | .hbm, ⟨6, _⟩ => ⟨S512, .f32⟩
  | .hbm, ⟨7, _⟩ => ⟨S131072x32, .f32⟩
  | .hbm, ⟨8, _⟩ => ⟨S_, .f32⟩
  | .hbm, ⟨9, _⟩ => ⟨S131072, .f32⟩
  | .hbm, ⟨10, _⟩ => ⟨S131072x1, .f32⟩
  | .hbm, ⟨11, _⟩ => ⟨S32x512, .f32⟩
  | .hbm, ⟨12, _⟩ => ⟨S131072x512, .f32⟩
  | .hbm, ⟨13, _⟩ => ⟨S_, .f32⟩
  | .hbm, ⟨14, _⟩ => ⟨S131072x512, .f32⟩
  | .hbm, ⟨15, _⟩ => ⟨S131072x512, .f32⟩
  | .hbm, ⟨16, _⟩ => ⟨S131072x512, .f32⟩
  | .hbm, ⟨17, _⟩ => ⟨S131072x512, .f32⟩
  | .hbm, ⟨18, _⟩ => ⟨S1x512, .f32⟩
  | .hbm, ⟨19, _⟩ => ⟨S131072x512, .f32⟩
  | .hbm, ⟨20, _⟩ => ⟨S131072x512, .f32⟩
  | .hbm, ⟨21, _⟩ => ⟨S131072x512, .i32⟩
  | .hbm, ⟨22, _⟩ => ⟨S_, .f32⟩
  | .hbm, ⟨23, _⟩ => ⟨S_, .i32⟩
  | .hbm, ⟨24, _⟩ => ⟨S131072, .f32⟩
  | .hbm, ⟨25, _⟩ => ⟨S131072, .i32⟩
  | .hbm, ⟨26, _⟩ => ⟨S_, .i32⟩
  | .hbm, ⟨27, _⟩ => ⟨S131072, .i32⟩
  | .hbm, ⟨28, _⟩ => ⟨S131072, .i1⟩
  | .hbm, ⟨29, _⟩ => ⟨S_, .i32⟩
  | .hbm, ⟨30, _⟩ => ⟨S131072, .i32⟩
  | .hbm, ⟨31, _⟩ => ⟨S131072, .i32⟩
  | .hbm, ⟨32, _⟩ => ⟨S131072, .i32⟩
  | .hbm, ⟨33, _⟩ => ⟨S131072x1, .i32⟩
  | .hbm, ⟨34, _⟩ => ⟨S1, .i32⟩
  | .hbm, ⟨35, _⟩ => ⟨S_, .i32⟩
  | .hbm, ⟨36, _⟩ => ⟨S131072x1, .i32⟩
  | .hbm, ⟨37, _⟩ => ⟨S131072x1, .i1⟩
  | .hbm, ⟨38, _⟩ => ⟨S1x1, .i32⟩
  | .hbm, ⟨39, _⟩ => ⟨S131072x1, .i32⟩
  | .hbm, ⟨40, _⟩ => ⟨S131072x1, .i1⟩
  | .hbm, ⟨41, _⟩ => ⟨S131072x1, .i1⟩
  | .hbm, ⟨42, _⟩ => ⟨S_, .i1⟩
  | .hbm, ⟨43, _⟩ => ⟨S131072, .i1⟩
  | .hbm, ⟨44, _⟩ => ⟨S131072x32, .f32⟩
  | .hbm, ⟨45, _⟩ => ⟨S131072x32, .i1⟩
  | .hbm, ⟨46, _⟩ => ⟨S_, .f32⟩
  | .hbm, ⟨47, _⟩ => ⟨S131072x32, .f32⟩
  | .hbm, ⟨48, _⟩ => ⟨S131072x32, .f32⟩
  | .hbm, ⟨49, _⟩ => ⟨S16x8192x32, .f32⟩
  | .hbm, ⟨50, _⟩ => ⟨S16x32x8192, .f32⟩
  | .hbm, ⟨51, _⟩ => ⟨S16x32x8192, .f32⟩
  | .hbm, ⟨52, _⟩ => ⟨S16x32x8192, .f32⟩
  | .hbm, ⟨53, _⟩ => ⟨S16x32x8192, .f32⟩
  | .hbm, ⟨54, _⟩ => ⟨S16x32x8192, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .i32⟩
  | .hbm, ⟨62, _⟩ => ⟨S512, .i32⟩
  | .hbm, ⟨63, _⟩ => ⟨S_, .i32⟩
  | .hbm, ⟨64, _⟩ => ⟨S_, .i32⟩
  | .hbm, ⟨65, _⟩ => ⟨S131072, .i32⟩
  | .hbm, ⟨66, _⟩ => ⟨S131072, .i32⟩
  | .hbm, ⟨67, _⟩ => ⟨S_, .i32⟩
  | .hbm, ⟨68, _⟩ => ⟨S131072, .i32⟩
  | .hbm, ⟨69, _⟩ => ⟨S131072, .i1⟩
  | .hbm, ⟨70, _⟩ => ⟨S_, .i32⟩
  | .hbm, ⟨71, _⟩ => ⟨S131072, .i32⟩
  | .hbm, ⟨72, _⟩ => ⟨S131072, .i32⟩
  | .hbm, ⟨73, _⟩ => ⟨S131072, .i32⟩
  | .hbm, ⟨74, _⟩ => ⟨S131072x1, .i32⟩
  | .hbm, ⟨75, _⟩ => ⟨S_, .i32⟩
  | .hbm, ⟨76, _⟩ => ⟨S131072, .i32⟩
  | .hbm, ⟨77, _⟩ => ⟨S512, .i32⟩
  | .hbm, ⟨78, _⟩ => ⟨S512, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S512, .f32⟩
  | .hbm, ⟨84, _⟩ => ⟨S512, .f32⟩
  | .hbm, ⟨85, _⟩ => ⟨S_, .f32⟩
  | .hbm, ⟨86, _⟩ => ⟨S512, .f32⟩
  | .hbm, ⟨87, _⟩ => ⟨S512, .f32⟩
  | .hbm, ⟨88, _⟩ => ⟨S512, .f32⟩
  | .hbm, ⟨89, _⟩ => ⟨S512, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S16x8192, .i32⟩
  | _, _ => ⟨S16x32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_2 : Ref sig .tc := ⟨.hbm, 55, rfl⟩
abbrev main_v24 : Ref sig .tc := ⟨.hbm, 56, rfl⟩
abbrev main_cst_3 : Ref sig .tc := ⟨.hbm, 57, rfl⟩
abbrev main_v25 : Ref sig .tc := ⟨.hbm, 58, rfl⟩
abbrev main_cst_4 : Ref sig .tc := ⟨.hbm, 59, rfl⟩
abbrev main_v26 : Ref sig .tc := ⟨.hbm, 60, rfl⟩
abbrev main_c : Ref sig .tc := ⟨.hbm, 61, rfl⟩
abbrev main_v27 : Ref sig .tc := ⟨.hbm, 62, rfl⟩
abbrev main_c_5 : Ref sig .tc := ⟨.hbm, 63, rfl⟩
abbrev main_call2_v0 : Ref sig .tc := ⟨.hbm, 64, rfl⟩
abbrev main_call2_v1 : Ref sig .tc := ⟨.hbm, 65, rfl⟩
abbrev main_v28 : Ref sig .tc := ⟨.hbm, 66, rfl⟩
abbrev main_c_6 : Ref sig .tc := ⟨.hbm, 67, rfl⟩
abbrev main_v29 : Ref sig .tc := ⟨.hbm, 68, rfl⟩
abbrev main_v30 : Ref sig .tc := ⟨.hbm, 69, rfl⟩
abbrev main_c_7 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_c_8 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_cst_9 : Ref sig .tc := ⟨.hbm, 79, rfl⟩
abbrev main_v38 : Ref sig .tc := ⟨.hbm, 80, rfl⟩
abbrev main_cst_10 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_cst_11 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_cst_12 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩

abbrev nD : Nat := 1
abbrev τ : Topo := Topo.v7x

variable {F : FTy → Type} [FloatOps F]
-- ==== Proof.Spec.lean ====
/- The first index of a least entry, and how the two ways of searching for it give it: the kernel's index reduction down a
   column, and the reference's fold along a row. -/
module

public import proofs.«01_k».proof.Defs
public import Idealize.ShloMosaic.Lib.ValueIdx
public import Idealize.ShloMosaic.Lib.ValueLayout
public import Idealize.ShloMosaic.Lib.IdealHost

@[expose] public section

noncomputable section

namespace Cert.VQ

open Idealize.ShloMosaic Idealize.ShloMosaic.ValueIdx

/-- `k` is the first index at which `f` is least. -/
def IsFirst {n : Nat} (f : Fin n → EReal) (k : Fin n) : Prop := ∀ k', f k < f k' ∨ (f k = f k' ∧ k ≤ k')

theorem exists_first (f : Fin 512 → EReal) : ∃ k, IsFirst f k := by
  obtain ⟨k, -, hk⟩ := Finset.exists_min_image (Finset.univ : Finset (Fin 512)) (fun k => toLex (f k, k)) ⟨0, Finset.mem_univ _⟩
  exact ⟨k, fun k' => Prod.Lex.le_iff.1 (hk k' (Finset.mem_univ _))⟩

theorem IsFirst.unique {n : Nat} {f : Fin n → EReal} {k k' : Fin n} (h : IsFirst f k) (h' : IsFirst f k') : k = k' := by
  rcases h k' with h1 | ⟨h1, h2⟩ <;> rcases h' k with h3 | ⟨h3, h4⟩
  · exact absurd h1 (not_lt.2 h3.le)
  · exact absurd h1 (by rw [h3]; exact lt_irrefl _)
  · exact absurd h3 (by rw [h1]; exact lt_irrefl _)
  · exact le_antisymm h2 h4

/-- The first index at which `f` is least. -/
def first (f : Fin 512 → EReal) : Fin 512 := (exists_first f).choose

theorem first_spec (f : Fin 512 → EReal) : IsFirst f (first f) := (exists_first f).choose_spec

theorem IsFirst.eq_first {f : Fin 512 → EReal} {k : Fin 512} (h : IsFirst f k) : k = first f := h.unique (first_spec f)

/-! ## The index reduction down a column -/

theorem lift_col {a b : Nat} (h : (⟨2, ![a, b]⟩ : Shape).Reduces [0] ⟨1, ![b]⟩) (j : Fin b) (k : Fin a) :
    h.lift (ix1 j) k = ix2 k j := by
  funext c
  apply Fin.ext
  match c with
  | ⟨0, _⟩ => rfl
  | ⟨1, _⟩ => rfl

theorem lift_row {a b : Nat} (h : (⟨2, ![a, b]⟩ : Shape).Reduces [1] ⟨1, ![a]⟩) (j : Fin a) (k : Fin b) :
    h.lift (ix1 j) k = ix2 j k := by
  funext c
  apply Fin.ext
  match c with
  | ⟨0, _⟩ => rfl
  | ⟨1, _⟩ => rfl

/-- The least member of a set of numbers. -/
theorem min_getD (A : Finset Nat) (n : Nat) (hin : n ∈ A) (hle : ∀ k ∈ A, n ≤ k) : A.min.getD 0 = n := by
  have h : A.min = (n : WithTop Nat) :=
    le_antisymm (Finset.min_le hin) (Finset.le_min fun k hk => WithTop.coe_le_coe.2 (hle k hk))
  rw [h]
  rfl

/-- The kernel's index reduction down a column gives the first index of a least entry. -/
theorem reduceIndex_col {b : Nat} (x : FVec Ideal ⟨2, ![512, b]⟩ .f32)
    (h : (⟨2, ![512, b]⟩ : Shape).Reduces [0] ⟨1, ![b]⟩) (j : Fin b) :
    reduceIndex .argMin 0 ⟨1, ![b]⟩ x h (ix1 j) = BitVec.ofNat 32 (first fun k => x (ix2 k j)).val := by
  classical
  have hf := first_spec fun k => x (ix2 k j)
  show Ideal.reduceIndex .argMin 0 h x (ix1 j) = _
  have hmem : ∀ i : (⟨2, ![512, b]⟩ : Shape).Idx, h.drop i = ix1 j ↔ ∃ k : Fin 512, i = ix2 k j := fun i =>
    ⟨fun hi => ⟨i 0, by rw [← lift_col h j (i 0), ← hi]; exact (h.lift_drop i).symm⟩,
      fun ⟨k, hk⟩ => by rw [hk, ← lift_col h j k]; exact h.drop_lift (ix1 j) k⟩
  unfold Ideal.reduceIndex
  dsimp only
  refine congrArg (BitVec.ofNat 32) (min_getD _ _ ?_ ?_)
  · rw [Finset.mem_image]
    refine ⟨ix2 (first fun k => x (ix2 k j)) j, ?_, rfl⟩
    simp only [Finset.mem_filter, Finset.mem_univ, true_and, hmem]
    refine ⟨⟨_, rfl⟩, ?_⟩
    rintro i' ⟨k', rfl⟩
    rcases hf k' with h1 | ⟨h1, -⟩
    · simpa using h1.le
    · simpa using h1.le
  · intro n hn
    rw [Finset.mem_image] at hn
    obtain ⟨i, hi, rfl⟩ := hn
    simp only [Finset.mem_filter, Finset.mem_univ, true_and, hmem] at hi
    obtain ⟨⟨k', rfl⟩, hi⟩ := hi
    have := hi (ix2 (first fun k => x (ix2 k j)) j) ⟨_, rfl⟩
    rcases hf k' with h1 | ⟨-, h2⟩
    · exact absurd h1 (by simpa using this)
    · exact h2

/-! ## A sum over a rank-3 index -/

/-- A rank-3 index as its three coordinates. -/
def tripleEquiv {a b c : Nat} : Fin a × Fin b × Fin c ≃ (⟨3, ![a, b, c]⟩ : Shape).Idx where
  toFun p := ix3 p.1 p.2.1 p.2.2
  invFun i := (i 0, i 1, i 2)
  left_inv _ := rfl
  right_inv i := (eq_ix3 i).symm

theorem sum_triple {a b c : Nat} (f : (⟨3, ![a, b, c]⟩ : Shape).Idx → EReal) :
    ∑ i, f i = ∑ x : Fin a, ∑ y : Fin b, ∑ w : Fin c, f (ix3 x y w) := by
  rw [← Equiv.sum_comp tripleEquiv, Fintype.sum_prod_type]
  exact Finset.sum_congr rfl fun x _ => by rw [Fintype.sum_prod_type]; rfl

/-! ## The distances -/

/-- The number two as both programs write it. -/
def two : EReal := Ideal.ofBits .f32 0x40000000#32

/-- The distance of a token from each code, as both programs spell it. -/
def dval (x : Fin 32 → EReal) (e : Fin 512 → Fin 32 → EReal) (k : Fin 512) : EReal :=
  ((∑ c, x c * x c) - two * ∑ c, e k c * x c) + ∑ c, e k c * e k c

/-- The nearest code of a token. -/
def near (x : Fin 32 → EReal) (e : Fin 512 → Fin 32 → EReal) : Fin 512 := first (dval x e)

/-- A contraction over one axis as a sum over its coordinate. -/
theorem dot_one {sl sr so : Shape} (D : DotDims sl sr so) (n : Nat) (hr : D.contr.rank = 1)
    (hs : D.contr.size ⟨0, by omega⟩ = n) (f : sl.Idx → EReal) (g : sr.Idx → EReal) (j : so.Idx) (li : Fin n → sl.Idx)
    (ri : Fin n → sr.Idx) (hl : ∀ k, D.lhsIdx j ((contrEquiv1 D n hr hs).symm k) = li k)
    (hri : ∀ k, D.rhsIdx j ((contrEquiv1 D n hr hs).symm k) = ri k) :
    ∑ k : D.contr.Idx, f (D.lhsIdx j k) * g (D.rhsIdx j k) = ∑ k : Fin n, f (li k) * g (ri k) := by
  rw [← Equiv.sum_comp (contrEquiv1 D n hr hs).symm]
  exact Finset.sum_congr rfl fun k _ => by rw [hl, hri]

/-! ## What both programs compute -/

section
variable (z : FVec Ideal ⟨3, ![16, 32, 8192]⟩ .f32) (e : FVec Ideal ⟨2, ![512, 32]⟩ .f32)

/-- The index of the nearest code of a token. -/
def nearAt (b : Fin 16) (t : Fin 8192) : Fin 512 := near (fun c => z (ix3 b c t)) (fun k c => e (ix2 k c))

/-- The nearest codes. -/
def specZq : FVec Ideal ⟨3, ![16, 32, 8192]⟩ .f32 := fun i => e (ix2 (nearAt z e (i 0) (i 2)) (i 1))

/-- Their indices. -/
def specIdx : IVec ⟨2, ![16, 8192]⟩ 32 := fun i => BitVec.ofNat 32 (nearAt z e (i 0) (i 1)).val

/-- How often a code is the nearest one. -/
def countOf (k : Fin 512) : EReal := ∑ b : Fin 16, ∑ t : Fin 8192, if nearAt z e b t = k then (1 : EReal) else 0

/-- How often each code is the nearest one. -/
def specCounts : FVec Ideal ⟨1, ![512]⟩ .f32 := fun i => countOf z e (i 0)

/-- The squared differences of one batch entry, summed. -/
def sqAt (b : Fin 16) : EReal :=
  ∑ c : Fin 32, ∑ t : Fin 8192, (z (ix3 b c t) - e (ix2 (nearAt z e b t) c)) * (z (ix3 b c t) - e (ix2 (nearAt z e b t) c))

/-- The loss. -/
def specLoss : FVec Ideal ⟨0, ![]⟩ .f32 :=
  mulf (constant _ .f32 0x3E800000#32) (Host.divf (fun _ => ∑ b : Fin 16, sqAt z e b) (constant _ .f32 0x4A800000#32))

end

end Cert.VQ
-- ==== Proof.KOut.lean ====
/- What one grid point leaves in each output's staging buffer: the payload of its covering store, over the input blocks
   and, where a point adds to what the point before left, over that. -/
module

public import proofs.«01_k».proof.Proof.Gen.KernelIdeal.Frame
public import Idealize.ShloMosaic.Lib.Pipeline.Value

@[expose] public section

noncomputable section

namespace Cert.VQ.Ker

open Cert.KernelIdeal Cert.KernelIdeal.Gen Idealize.ShloMosaic Idealize.ShloMosaic.TcCoe Idealize.SL.Sem

variable {F : FTy → Type} [FloatOps F]

theorem z2 : (![0, 0] : Fin 2 → Nat) = fun _ => 0 := funext fun a => match a with | ⟨0, _⟩ => rfl | ⟨1, _⟩ => rfl

theorem z3 : (![0, 0, 0] : Fin 3 → Nat) = fun _ => 0 :=
  funext fun a => match a with | ⟨0, _⟩ => rfl | ⟨1, _⟩ => rfl | ⟨2, _⟩ => rfl

variable (c : Dev nD) (i : grid0.Coords) (a1 : Memref sig .tc .vmem S1x32x8192 .f32) (h1 : a1.IsWhole) (a2 : Memref sig .tc .vmem S512x32 .f32) (h2 : a2.IsWhole)
    (a3 : Memref sig .tc .vmem S512x64 .bf16) (h3 : a3.IsWhole) (a4 : Memref sig .tc .vmem S1x32x8192 .f32) (h4 : a4.IsWhole)
    (a5 : Memref sig .tc .vmem S1x1x8192 .i32) (h5 : a5.IsWhole) (a6 : Memref sig .tc .vmem S1x512 .f32) (h6 : a6.IsWhole)
    (a7 : Memref sig .tc .vmem S1x128 .f32) (h7 : a7.IsWhole)
  (x0 : Vec F S1x32x8192 .f32) (x1 : Vec F S512x32 .f32) (x2 : Vec F S512x64 .bf16) (x3 : Vec F S1x512 .f32) (x4 : Vec F S1x128 .f32)

theorem out_A_3 (hc : cond0_0 i) (hd : ¬cond0_1 i) :
    out0_A_3 c i a1 h1 a2 h2 a3 h3 a4 h4 a5 h5 a6 h6 a7 h7 hc hd x0 x1 x2 = k0_pay12 x0 x1 x2 := by
  unfold out0_A_3
  rw [View.read_writes_eq_canon _ _ _ (cover0_A_3 c i a1 h1 a2 h2 a3 h3 a4 h4 a5 h5 a6 h6 a7 h7 hc hd x0 x1 x2)]
  unfold kernelRun0_A
  dsimp only

  rw [View.canon_unit_zero (S := S1x32x8192) z3]
  simp only [View.readAt_eq_ld, h1.read_unread, h2.read_unread, h3.read_unread, h6.read_unread, h7.read_unread,
    View.ld_unit_zero (S := S1x32x8192) z3, View.ld_unit_zero (S := S512x32) z2, View.ld_unit_zero (S := S512x64) z2,
    View.ld_unit_zero (S := S1x512) z2, View.ld_unit_zero (S := S1x128) z2]

theorem out_A_4 (hc : cond0_0 i) (hd : ¬cond0_1 i) :
    out0_A_4 c i a1 h1 a2 h2 a3 h3 a4 h4 a5 h5 a6 h6 a7 h7 hc hd x0 x1 x2 = k0_pay13 x0 x1 x2 := by
  unfold out0_A_4
  rw [View.read_writes_eq_canon _ _ _ (cover0_A_4 c i a1 h1 a2 h2 a3 h3 a4 h4 a5 h5 a6 h6 a7 h7 hc hd x0 x1 x2)]
  unfold kernelRun0_A
  dsimp only

  rw [View.canon_unit_zero (S := S1x1x8192) z3]
  simp only [View.readAt_eq_ld, h1.read_unread, h2.read_unread, h3.read_unread, h6.read_unread, h7.read_unread,
    View.ld_unit_zero (S := S1x32x8192) z3, View.ld_unit_zero (S := S512x32) z2, View.ld_unit_zero (S := S512x64) z2,
    View.ld_unit_zero (S := S1x512) z2, View.ld_unit_zero (S := S1x128) z2]

theorem out_A_5 (hc : cond0_0 i) (hd : ¬cond0_1 i) :
    out0_A_5 c i a1 h1 a2 h2 a3 h3 a4 h4 a5 h5 a6 h6 a7 h7 hc hd x0 x1 x2 = k0_pay3 (k0_pay10 x0 x1 x2) := by
  unfold out0_A_5
  rw [View.read_writes_eq_canon _ _ _ (cover0_A_5 c i a1 h1 a2 h2 a3 h3 a4 h4 a5 h5 a6 h6 a7 h7 hc hd x0 x1 x2)]
  unfold kernelRun0_A
  dsimp only
  sl_unfold_words
  rw [View.canon_unit_zero (S := S1x512) z2]
  simp only [View.readAt_eq_ld, h1.read_unread, h2.read_unread, h3.read_unread, h6.read_unread, h7.read_unread,
    View.ld_unit_zero (S := S1x32x8192) z3, View.ld_unit_zero (S := S512x32) z2, View.ld_unit_zero (S := S512x64) z2,
    View.ld_unit_zero (S := S1x512) z2, View.ld_unit_zero (S := S1x128) z2]

theorem out_A_6 (hc : cond0_0 i) (hd : ¬cond0_1 i) :
    out0_A_6 c i a1 h1 a2 h2 a3 h3 a4 h4 a5 h5 a6 h6 a7 h7 hc hd x0 x1 x2 = k0_pay4 (k0_pay7 x0) (k0_pay11 x0 x1 x2) := by
  unfold out0_A_6
  rw [View.read_writes_eq_canon _ _ _ (cover0_A_6 c i a1 h1 a2 h2 a3 h3 a4 h4 a5 h5 a6 h6 a7 h7 hc hd x0 x1 x2)]
  unfold kernelRun0_A
  dsimp only
  sl_unfold_words
  rw [View.canon_unit_zero (S := S1x128) z2]
  simp only [View.readAt_eq_ld, h1.read_unread, h2.read_unread, h3.read_unread, h6.read_unread, h7.read_unread,
    View.ld_unit_zero (S := S1x32x8192) z3, View.ld_unit_zero (S := S512x32) z2, View.ld_unit_zero (S := S512x64) z2,
    View.ld_unit_zero (S := S1x512) z2, View.ld_unit_zero (S := S1x128) z2]

theorem out_B_3 (hc : ¬cond0_0 i) (hd : cond0_1 i) :
    out0_B_3 c i a1 h1 a2 h2 a3 h3 a4 h4 a5 h5 a6 h6 a7 h7 hc hd x0 x1 x2 x3 x4 = k0_pay12 x0 x1 x2 := by
  unfold out0_B_3
  rw [View.read_writes_eq_canon _ _ _ (cover0_B_3 c i a1 h1 a2 h2 a3 h3 a4 h4 a5 h5 a6 h6 a7 h7 hc hd x0 x1 x2 x3 x4)]
  unfold kernelRun0_B
  dsimp only

  rw [View.canon_unit_zero (S := S1x32x8192) z3]
  simp only [View.readAt_eq_ld, h1.read_unread, h2.read_unread, h3.read_unread, h6.read_unread, h7.read_unread,
    View.ld_unit_zero (S := S1x32x8192) z3, View.ld_unit_zero (S := S512x32) z2, View.ld_unit_zero (S := S512x64) z2,
    View.ld_unit_zero (S := S1x512) z2, View.ld_unit_zero (S := S1x128) z2]

theorem out_B_4 (hc : ¬cond0_0 i) (hd : cond0_1 i) :
    out0_B_4 c i a1 h1 a2 h2 a3 h3 a4 h4 a5 h5 a6 h6 a7 h7 hc hd x0 x1 x2 x3 x4 = k0_pay13 x0 x1 x2 := by
  unfold out0_B_4
  rw [View.read_writes_eq_canon _ _ _ (cover0_B_4 c i a1 h1 a2 h2 a3 h3 a4 h4 a5 h5 a6 h6 a7 h7 hc hd x0 x1 x2 x3 x4)]
  unfold kernelRun0_B
  dsimp only

  rw [View.canon_unit_zero (S := S1x1x8192) z3]
  simp only [View.readAt_eq_ld, h1.read_unread, h2.read_unread, h3.read_unread, h6.read_unread, h7.read_unread,
    View.ld_unit_zero (S := S1x32x8192) z3, View.ld_unit_zero (S := S512x32) z2, View.ld_unit_zero (S := S512x64) z2,
    View.ld_unit_zero (S := S1x512) z2, View.ld_unit_zero (S := S1x128) z2]

theorem out_B_5 (hc : ¬cond0_0 i) (hd : cond0_1 i) :
    out0_B_5 c i a1 h1 a2 h2 a3 h3 a4 h4 a5 h5 a6 h6 a7 h7 hc hd x0 x1 x2 x3 x4 = k0_pay5 (k0_pay10 x0 x1 x2) x3 := by
  unfold out0_B_5
  rw [View.read_writes_eq_canon _ _ _ (cover0_B_5 c i a1 h1 a2 h2 a3 h3 a4 h4 a5 h5 a6 h6 a7 h7 hc hd x0 x1 x2 x3 x4)]
  unfold kernelRun0_B
  dsimp only
  sl_unfold_words
  rw [View.canon_unit_zero (S := S1x512) z2]
  simp only [View.readAt_eq_ld, h1.read_unread, h2.read_unread, h3.read_unread, h6.read_unread, h7.read_unread,
    View.ld_unit_zero (S := S1x32x8192) z3, View.ld_unit_zero (S := S512x32) z2, View.ld_unit_zero (S := S512x64) z2,
    View.ld_unit_zero (S := S1x512) z2, View.ld_unit_zero (S := S1x128) z2]

theorem out_B_6 (hc : ¬cond0_0 i) (hd : cond0_1 i) :
    out0_B_6 c i a1 h1 a2 h2 a3 h3 a4 h4 a5 h5 a6 h6 a7 h7 hc hd x0 x1 x2 x3 x4 = k0_pay6 (k0_pay7 x0) (k0_pay11 x0 x1 x2) x4 := by
  unfold out0_B_6
  rw [View.read_writes_eq_canon _ _ _ (cover0_B_6 c i a1 h1 a2 h2 a3 h3 a4 h4 a5 h5 a6 h6 a7 h7 hc hd x0 x1 x2 x3 x4)]
  unfold kernelRun0_B
  dsimp only
  sl_unfold_words
  rw [View.canon_unit_zero (S := S1x128) z2]
  simp only [View.readAt_eq_ld, h1.read_unread, h2.read_unread, h3.read_unread, h6.read_unread, h7.read_unread,
    View.ld_unit_zero (S := S1x32x8192) z3, View.ld_unit_zero (S := S512x32) z2, View.ld_unit_zero (S := S512x64) z2,
    View.ld_unit_zero (S := S1x512) z2, View.ld_unit_zero (S := S1x128) z2]

end Cert.VQ.Ker

end
-- ==== Proof.KArr.lean ====
/- The arrays after the run: the first two outputs block by block, the two accumulated ones from the last point; and the
   blocks that a point reads. -/
module

public import proofs.«01_k».proof.Proof.KOut
public import Idealize.ShloMosaic.Lib.ValueIdxCore
public import Idealize.ShloMosaic.Lib.StableHlo.RunRead

@[expose] public section

noncomputable section

namespace Cert.VQ.Ker

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ) (c : Dev nD)

/-- The grid point of a batch member. -/
def pt (b : Fin 16) : Fin cfg0.N := ⟨b.val, by have := b.isLt; rw [show cfg0.N = 16 from N_0]; exact this⟩

/-- What a point leaves for the first output. -/
theorem outs_3 (t : Fin cfg0.N) : (outsAt0 m c t.val t.isLt).1 = k0_pay12 (iblk m c 0 t) (iblk m c 1 t) (iblk m c 2 t) := by
  have hN : cfg0.N = 16 := N_0
  have := t.isLt
  by_cases h : t.val = 0
  · rw [outsAt0_A m c t (by omega) (by omega), out_A_3]
  · rw [outsAt0_B m c t (by omega) (by omega), out_B_3]

/-- What a point leaves for the second output. -/
theorem outs_4 (t : Fin cfg0.N) : (outsAt0 m c t.val t.isLt).2.1 = k0_pay13 (iblk m c 0 t) (iblk m c 1 t) (iblk m c 2 t) := by
  have hN : cfg0.N = 16 := N_0
  have := t.isLt
  by_cases h : t.val = 0
  · rw [outsAt0_A m c t (by omega) (by omega), out_A_4]
  · rw [outsAt0_B m c t (by omega) (by omega), out_B_4]

/-- The first output after the run. -/
def res3 : Vec F S16x32x8192 .f32 := fun i =>
  k0_pay12 (iblk m c 0 (pt (i 0))) (iblk m c 1 (pt (i 0))) (iblk m c 2 (pt (i 0))) (ix3 (0 : Fin 1) (i 1) (i 2))

/-- The second output after the run. -/
def res4 : Vec F S16x1x8192 .i32 := fun i =>
  k0_pay13 (iblk m c 0 (pt (i 0))) (iblk m c 1 (pt (i 0))) (iblk m c 2 (pt (i 0))) (ix3 (0 : Fin 1) (i 1) (i 2))

theorem index_3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)

theorem index_4 : ∀ t : Fin cfg0.N, win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0)

theorem index_0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

theorem index_1 : ∀ t : Fin cfg0.N, win0_1.index t 0 = 0 ∧ win0_1.index t 1 = 0 :=
  (by decide +kernel : ∀ t : Fin grid0.N, win0_1.index t 0 = 0 ∧ win0_1.index t 1 = 0)

theorem index_2 : ∀ t : Fin cfg0.N, win0_2.index t 0 = 0 ∧ win0_2.index t 1 = 0 :=
  (by decide +kernel : ∀ t : Fin grid0.N, win0_2.index t 0 = 0 ∧ win0_2.index t 1 = 0)

/-- What a point writes back to the first output is its block of `res3`. -/
theorem flushed_3 (t : Fin cfg0.N) :
    (dats m 0 c).flushed 3 t = ((cfg0.win 3).blk t).view.read (Elt F) (res3 m c) := by
  show (cfg0.win 3).cut (grid0.coords t) ((dats m 0 c).after 3 t) = _
  rw [after0_3, outs_3]
  funext j
  rw [View.read_apply]
  show k0_pay12 (iblk m c 0 t) (iblk m c 1 t) (iblk m c 2 t) j = res3 m c _
  unfold res3
  have h0 : (j 0).val < 1 := (j 0).isLt
  have e : pt ((((cfg0.win 3).blk t).view.emb j) 0) = t := Fin.ext (by
    show win0_3.index t 0 * 1 + 1 * (j 0).val = t.val
    rw [(index_3 t).1]; omega)
  rw [e]
  congr 1
  funext a
  apply Fin.ext
  match a with
  | ⟨0, _⟩ => show (j 0).val = 0; omega
  | ⟨1, _⟩ => show (j 1).val = win0_3.index t 1 * 32 + 1 * (j 1).val; rw [(index_3 t).2.1]; omega
  | ⟨2, _⟩ => show (j 2).val = win0_3.index t 2 * 8192 + 1 * (j 2).val; rw [(index_3 t).2.2]; omega

/-- What a point writes back to the second output is its block of `res4`. -/
theorem flushed_4 (t : Fin cfg0.N) :
    (dats m 0 c).flushed 4 t = ((cfg0.win 4).blk t).view.read (Elt F) (res4 m c) := by
  show (cfg0.win 4).cut (grid0.coords t) ((dats m 0 c).after 4 t) = _
  rw [after0_4, outs_4]
  funext j
  rw [View.read_apply]
  show k0_pay13 (iblk m c 0 t) (iblk m c 1 t) (iblk m c 2 t) j = res4 m c _
  unfold res4
  have h0 : (j 0).val < 1 := (j 0).isLt
  have h1 : (j 1).val < 1 := (j 1).isLt
  have e : pt ((((cfg0.win 4).blk t).view.emb j) 0) = t := Fin.ext (by
    show win0_4.index t 0 * 1 + 1 * (j 0).val = t.val
    rw [(index_4 t).1]; omega)
  rw [e]
  congr 1
  funext a
  apply Fin.ext
  match a with
  | ⟨0, _⟩ => show (j 0).val = 0; omega
  | ⟨1, _⟩ => show (j 1).val = win0_4.index t 1 * 1 + 1 * (j 1).val; rw [(index_4 t).2.1]; omega
  | ⟨2, _⟩ => show (j 2).val = win0_4.index t 2 * 8192 + 1 * (j 2).val; rw [(index_4 t).2.2]; omega

theorem xsize_3 : ∀ t : Fin cfg0.N, win0_3.xsize (grid0.coords t) 0 = 1 ∧ win0_3.xsize (grid0.coords t) 1 = 32 ∧ win0_3.xsize (grid0.coords t) 2 = 8192 :=
  (by decide +kernel : ∀ t : Fin grid0.N, win0_3.xsize (grid0.coords t) 0 = 1 ∧ win0_3.xsize (grid0.coords t) 1 = 32 ∧ win0_3.xsize (grid0.coords t) 2 = 8192)

theorem xsize_4 : ∀ t : Fin cfg0.N, win0_4.xsize (grid0.coords t) 0 = 1 ∧ win0_4.xsize (grid0.coords t) 1 = 1 ∧ win0_4.xsize (grid0.coords t) 2 = 8192 :=
  (by decide +kernel : ∀ t : Fin grid0.N, win0_4.xsize (grid0.coords t) 0 = 1 ∧ win0_4.xsize (grid0.coords t) 1 = 1 ∧ win0_4.xsize (grid0.coords t) 2 = 8192)

theorem arr_3 : (dats m 0 c).arrAt 3 cfg0.N = res3 m c :=
  (dats m 0 c).arrAt_eq_of_cover 3 (res3 m c) (fun t _ => flushed_3 m c t) fun i => ⟨pt (i 0), flush0_3 _, by
    show i ∈ ((View.whole main_v5_0).slice (win0_3.rect (pt (i 0)))).set
    rw [View.set_slice_whole, Rect.mem_set_unit]
    intro a
    have h1 : (i 1 : Nat) < 32 := (i 1).isLt
    have h2 : (i 2 : Nat) < 8192 := (i 2).isLt
    match a with
    | ⟨0, _⟩ =>
      show win0_3.index (pt (i 0)) 0 * 1 ≤ (i 0 : Nat) ∧ (i 0 : Nat) < win0_3.index (pt (i 0)) 0 * 1 + win0_3.xsize (grid0.coords (pt (i 0))) 0
      rw [(index_3 _).1, (xsize_3 _).1]; show (i 0).val * 1 ≤ _ ∧ _ < (i 0).val * 1 + 1; omega
    | ⟨1, _⟩ =>
      show win0_3.index (pt (i 0)) 1 * 32 ≤ (i 1 : Nat) ∧ (i 1 : Nat) < win0_3.index (pt (i 0)) 1 * 32 + win0_3.xsize (grid0.coords (pt (i 0))) 1
      rw [(index_3 _).2.1, (xsize_3 _).2.1]; omega
    | ⟨2, _⟩ =>
      show win0_3.index (pt (i 0)) 2 * 8192 ≤ (i 2 : Nat) ∧ (i 2 : Nat) < win0_3.index (pt (i 0)) 2 * 8192 + win0_3.xsize (grid0.coords (pt (i 0))) 2
      rw [(index_3 _).2.2, (xsize_3 _).2.2]; omega⟩

theorem arr_4 : (dats m 0 c).arrAt 4 cfg0.N = res4 m c :=
  (dats m 0 c).arrAt_eq_of_cover 4 (res4 m c) (fun t _ => flushed_4 m c t) fun i => ⟨pt (i 0), flush0_4 _, by
    show i ∈ ((View.whole main_v5_1).slice (win0_4.rect (pt (i 0)))).set
    rw [View.set_slice_whole, Rect.mem_set_unit]
    intro a
    have h1 : (i 1 : Nat) < 1 := (i 1).isLt
    have h2 : (i 2 : Nat) < 8192 := (i 2).isLt
    match a with
    | ⟨0, _⟩ =>
      show win0_4.index (pt (i 0)) 0 * 1 ≤ (i 0 : Nat) ∧ (i 0 : Nat) < win0_4.index (pt (i 0)) 0 * 1 + win0_4.xsize (grid0.coords (pt (i 0))) 0
      rw [(index_4 _).1, (xsize_4 _).1]; show (i 0).val * 1 ≤ _ ∧ _ < (i 0).val * 1 + 1; omega
    | ⟨1, _⟩ =>
      show win0_4.index (pt (i 0)) 1 * 1 ≤ (i 1 : Nat) ∧ (i 1 : Nat) < win0_4.index (pt (i 0)) 1 * 1 + win0_4.xsize (grid0.coords (pt (i 0))) 1
      rw [(index_4 _).2.1, (xsize_4 _).2.1]; omega
    | ⟨2, _⟩ =>
      show win0_4.index (pt (i 0)) 2 * 8192 ≤ (i 2 : Nat) ∧ (i 2 : Nat) < win0_4.index (pt (i 0)) 2 * 8192 + win0_4.xsize (grid0.coords (pt (i 0))) 2
      rw [(index_4 _).2.2, (xsize_4 _).2.2]; omega⟩

/-- The accumulated counts: what the last point leaves. -/
def res5 : Vec F S1x512 .f32 := (outsAt0 m c 15 (by rw [show cfg0.N = 16 from N_0]; decide)).2.2.1

/-- The accumulated squared differences: what the last point leaves. -/
def res6 : Vec F S1x128 .f32 := (outsAt0 m c 15 (by rw [show cfg0.N = 16 from N_0]; decide)).2.2.2

theorem flushed_5 (t : Fin cfg0.N) (hf : (cfg0.win 5).flush t = true) :
    (dats m 0 c).flushed 5 t = ((cfg0.win 5).blk t).view.read (Elt F) (res5 m c) := by
  have hN : cfg0.N = 16 := N_0
  have h15 : t.val = 15 := by have := (flush0_5 t).mp hf; have := t.isLt; omega
  obtain rfl : t = t0_15 := Fin.ext h15
  show (cfg0.win 5).cut (grid0.coords t0_15) ((dats m 0 c).after 5 t0_15) = _
  rw [after0_5]
  have hz' : (fun a => win0_5.index t0_15 a * main_v5_2.ty.shape.size a) = fun _ => 0 := funext fun a => by fin_cases a <;> decide
  exact (Memref.read_access_unit_zero (Elt F) main_v5_2 hz' (fun a => by rw [congrFun hz' a]; simp) (res5 m c)).symm

theorem flushed_6 (t : Fin cfg0.N) (hf : (cfg0.win 6).flush t = true) :
    (dats m 0 c).flushed 6 t = ((cfg0.win 6).blk t).view.read (Elt F) (res6 m c) := by
  have hN : cfg0.N = 16 := N_0
  have h15 : t.val = 15 := by have := (flush0_6 t).mp hf; have := t.isLt; omega
  obtain rfl : t = t0_15 := Fin.ext h15
  show (cfg0.win 6).cut (grid0.coords t0_15) ((dats m 0 c).after 6 t0_15) = _
  rw [after0_6]
  have hz' : (fun a => win0_6.index t0_15 a * main_v5_3.ty.shape.size a) = fun _ => 0 := funext fun a => by fin_cases a <;> decide
  exact (Memref.read_access_unit_zero (Elt F) main_v5_3 hz' (fun a => by rw [congrFun hz' a]; simp) (res6 m c)).symm

theorem arr_5 : (dats m 0 c).arrAt 5 cfg0.N = res5 m c :=
  (dats m 0 c).arrAt_eq_of_cover 5 (res5 m c) (flushed_5 m c) fun i => ⟨t0_15, (flush0_5 t0_15).mpr rfl, by
    show i ∈ ((View.whole main_v5_2).slice (win0_5.rect t0_15)).set
    rw [View.set_slice_whole, Rect.mem_set_unit]
    intro a
    have h0 : (i 0 : Nat) < 1 := (i 0).isLt
    have h1 : (i 1 : Nat) < 512 := (i 1).isLt
    match a with
    | ⟨0, _⟩ => show win0_5.index t0_15 0 * win0_5.size 0 ≤ (i 0 : Nat) ∧ (i 0 : Nat) < win0_5.index t0_15 0 * win0_5.size 0 + win0_5.xsize (grid0.coords t0_15) 0
                rw [show win0_5.index t0_15 0 * win0_5.size 0 = 0 from by decide +kernel, show win0_5.xsize (grid0.coords t0_15) 0 = 1 from by decide +kernel]; omega
    | ⟨1, _⟩ => show win0_5.index t0_15 1 * win0_5.size 1 ≤ (i 1 : Nat) ∧ (i 1 : Nat) < win0_5.index t0_15 1 * win0_5.size 1 + win0_5.xsize (grid0.coords t0_15) 1
                rw [show win0_5.index t0_15 1 * win0_5.size 1 = 0 from by decide +kernel, show win0_5.xsize (grid0.coords t0_15) 1 = 512 from by decide +kernel]; omega⟩

theorem arr_6 : (dats m 0 c).arrAt 6 cfg0.N = res6 m c :=
  (dats m 0 c).arrAt_eq_of_cover 6 (res6 m c) (flushed_6 m c) fun i => ⟨t0_15, (flush0_6 t0_15).mpr rfl, by
    show i ∈ ((View.whole main_v5_3).slice (win0_6.rect t0_15)).set
    rw [View.set_slice_whole, Rect.mem_set_unit]
    intro a
    have h0 : (i 0 : Nat) < 1 := (i 0).isLt
    have h1 : (i 1 : Nat) < 128 := (i 1).isLt
    match a with
    | ⟨0, _⟩ => show win0_6.index t0_15 0 * win0_6.size 0 ≤ (i 0 : Nat) ∧ (i 0 : Nat) < win0_6.index t0_15 0 * win0_6.size 0 + win0_6.xsize (grid0.coords t0_15) 0
                rw [show win0_6.index t0_15 0 * win0_6.size 0 = 0 from by decide +kernel, show win0_6.xsize (grid0.coords t0_15) 0 = 1 from by decide +kernel]; omega
    | ⟨1, _⟩ => show win0_6.index t0_15 1 * win0_6.size 1 ≤ (i 1 : Nat) ∧ (i 1 : Nat) < win0_6.index t0_15 1 * win0_6.size 1 + win0_6.xsize (grid0.coords t0_15) 1
                rw [show win0_6.index t0_15 1 * win0_6.size 1 = 0 from by decide +kernel, show win0_6.xsize (grid0.coords t0_15) 1 = 128 from by decide +kernel]; omega⟩

/-- One batch member as a block. -/
def slab (z : Vec F S16x32x8192 .f32) (b : Fin 16) : Vec F S1x32x8192 .f32 := fun j => z (ix3 b (j 1) (j 2))

theorem iblk_0 (b : Fin 16) : iblk m c 0 (pt b) = slab (m ((c : Thread nD τ).loc main_arg0)) b := by
  funext j
  unfold iblk slab
  rw [View.read_apply]
  show V m c main_arg0 _ = _
  rw [V_main_arg0]
  congr 1
  funext a
  apply Fin.ext
  have h0 : (j 0).val < 1 := (j 0).isLt
  match a with
  | ⟨0, _⟩ => show win0_0.index (pt b) 0 * 1 + 1 * (j 0).val = b.val; rw [(index_0 _).1]; show b.val * 1 + _ = _; omega
  | ⟨1, _⟩ => show win0_0.index (pt b) 1 * 32 + 1 * (j 1).val = (j 1).val; rw [(index_0 _).2.1]; omega
  | ⟨2, _⟩ => show win0_0.index (pt b) 2 * 8192 + 1 * (j 2).val = (j 2).val; rw [(index_0 _).2.2]; omega

theorem iblk_1 (t : Fin cfg0.N) : iblk m c 1 t = m ((c : Thread nD τ).loc main_arg1) := by
  funext j
  unfold iblk
  rw [View.read_apply]
  show V m c main_arg1 _ = _
  rw [V_main_arg1]
  congr 1
  funext a
  apply Fin.ext
  match a with
  | ⟨0, _⟩ => show win0_1.index t 0 * 512 + 1 * (j 0).val = (j 0).val; rw [(index_1 _).1]; omega
  | ⟨1, _⟩ => show win0_1.index t 1 * 32 + 1 * (j 1).val = (j 1).val; rw [(index_1 _).2]; omega

theorem iblk_2 (t : Fin cfg0.N) : iblk m c 2 t = V m c main_v4 := by
  funext j
  unfold iblk
  rw [View.read_apply]
  show V m c main_v4 _ = _
  congr 1
  funext a
  apply Fin.ext
  match a with
  | ⟨0, _⟩ => show win0_2.index t 0 * 512 + 1 * (j 0).val = (j 0).val; rw [(index_2 _).1]; omega
  | ⟨1, _⟩ => show win0_2.index t 1 * 64 + 1 * (j 1).val = (j 1).val; rw [(index_2 _).2]; omega

end Cert.VQ.Ker

end
-- ==== Proof.RefOps.lean ====
/- The operations of the reference, in the order in which it runs them, cut into stages; and what each stage leaves. -/
module

public import proofs.«01_k».proof.Defs
public import proofs.«01_k».proof.Proof.Gen.ReferenceIdeal
public import Idealize.ShloMosaic.Lib.StableHlo.RunRead

@[expose] public section

noncomputable section

namespace Cert.VQ.Ref

open Cert.ReferenceIdeal Cert.ReferenceIdeal.Gen Idealize.ShloMosaic Idealize.ShloMosaic.TcCoe Idealize.SL.Sem
open Idealize.ShloMosaic.StableHlo

/-- The tokens as rows: `z_e` with the channels last, flattened. -/
def flat (z : FVec Ideal S16x32x8192 .f32) : FVec Ideal S131072x32 .f32 :=
  shapeCast _ (transpose S16x8192x32 [0, 2, 1] z transposes_S16x32x8192_S16x8192x32_0_2_1) shapeCasts_S16x8192x32_S131072x32

/-- The squared lengths of the codes. -/
def eSq (e : FVec Ideal S512x32 .f32) : FVec Ideal S512 .f32 :=
  Host.reduceAdd (mulf e e) (constant S_ .f32 0x00000000#32) reducesTo_S512x32_S512_d1 h_S_

/-- The squared lengths of the tokens. -/
def xSq (z : FVec Ideal S16x32x8192 .f32) : FVec Ideal S131072 .f32 :=
  Host.reduceAdd (mulf (flat z) (flat z)) (constant S_ .f32 0x00000000#32) reducesTo_S131072x32_S131072_d1 h_S_

/-- The inner products of tokens and codes. -/
def dots (z : FVec Ideal S16x32x8192 .f32) (e : FVec Ideal S512x32 .f32) : FVec Ideal S131072x512 .f32 :=
  Host.dotGeneral dot_S131072x32_S32x512_S131072x512_1_0_0_1_n_n none (flat z)
    (transpose S32x512 [1, 0] e transposes_S512x32_S32x512_1_0)

/-- The distances. -/
def dist (z : FVec Ideal S16x32x8192 .f32) (e : FVec Ideal S512x32 .f32) : FVec Ideal S131072x512 .f32 :=
  addf
    (subf
      (broadcastInDim S131072x512 ![0, 1] bcast_S131072x1_S131072x512_0_1
        (broadcastInDim S131072x1 ![0] bcast_S131072_S131072x1_0 (xSq z)))
      (mulf (broadcastInDim S131072x512 ![] bcast_S_S131072x512 (constant S_ .f32 0x40000000#32)) (dots z e)))
    (broadcastInDim S131072x512 ![0, 1] bcast_S1x512_S131072x512_0_1
      (broadcastInDim S1x512 ![1] bcast_S512_S1x512_1 (eSq e)))

/-- The index of the least entry of each row. -/
def argmin (d : FVec Ideal S131072x512 .f32) : IVec S131072 32 :=
  fun j => (Host.argReduce reducer_argmin_f32_i32 d (iotaInDim S131072x512 32 1)
    (constant S_ .f32 0x7F800000#32) (constantI S_ 32 0#32) reducesTo_S131072x512_S131072_d1 h_S_ j).2

/-- The index of the nearest code, token by token. -/
def idx (z : FVec Ideal S16x32x8192 .f32) (e : FVec Ideal S512x32 .f32) : IVec S131072 32 := argmin (dist z e)

/-- An index below zero counts from the end: here for the row that is taken, as a column. -/
def wrap (i : IVec S131072 32) : IVec S131072x1 32 :=
  broadcastInDim S131072x1 ![0] bcast_S131072_S131072x1_0
    (select (cmpi .slt i (broadcastInDim S131072 ![] bcast_S_S131072 (constantI S_ 32 0#32)))
      (addi i (broadcastInDim S131072 ![] bcast_S_S131072 (constantI S_ 32 512#32))) i)

/-- Whether a row index names a code. -/
def inRange (w : IVec S131072x1 32) : IVec S131072 1 :=
  Host.reduce IntOp.andi
    (andi (cmpi .sge w (broadcastInDim S131072x1 ![] bcast_S_S131072x1 (constantI S_ 32 0#32)))
      (cmpi .sle w (broadcastInDim S131072x1 ![0, 1] bcast_S1x1_S131072x1_0_1
        (broadcastInDim S1x1 ![1] bcast_S1_S1x1_1 (constantI S1 32 511#32)))))
    (constantI S_ 1 1#1) reducesTo_S131072x1_S131072_d1 h_S_

/-- The rows of the codebook that a list of indices names. -/
def take (e : FVec Ideal S512x32 .f32) (i : IVec S131072 32) : FVec Ideal S131072x32 .f32 :=
  select (broadcastInDim S131072x32 ![0] bcast_S131072_S131072x32_0 (inRange (wrap i)))
    (Host.gather gather_S512x32_S131072x1_S131072x32_1_0_n_n_0_1_132 e (wrap i))
    (broadcastInDim S131072x32 ![] bcast_S_S131072x32 (constant S_ .f32 0x7FC00000#32))

/-- Rows with the channels back in the middle. -/
def unflat (r : FVec Ideal S131072x32 .f32) : FVec Ideal S16x32x8192 .f32 :=
  transpose S16x32x8192 [0, 2, 1] (shapeCast _ r shapeCasts_S131072x32_S16x8192x32)
    transposes_S16x8192x32_S16x32x8192_0_2_1

/-- The nearest codes, with the channels back in the middle. -/
def zq (e : FVec Ideal S512x32 .f32) (i : IVec S131072 32) : FVec Ideal S16x32x8192 .f32 := unflat (take e i)

/-- The first result: the token plus the way from it to its code. -/
def zqSt (z : FVec Ideal S16x32x8192 .f32) (e : FVec Ideal S512x32 .f32) : FVec Ideal S16x32x8192 .f32 :=
  addf z (subf (zq e (idx z e)) z)

/-- The mean squared difference of two arrays, times 1/4. -/
def msd (z q : FVec Ideal S16x32x8192 .f32) : FVec Ideal S_ .f32 :=
  mulf (constant S_ .f32 0x3E800000#32)
    (Host.divf
      (Host.reduceAdd (mulf (subf z q) (subf z q)) (constant S_ .f32 0x00000000#32)
        reducesTo_S16x32x8192_S_d0_1_2 h_S_)
      (constant S_ .f32 0x4A800000#32))

/-- The second result: the commitment loss. -/
def loss (z : FVec Ideal S16x32x8192 .f32) (e : FVec Ideal S512x32 .f32) : FVec Ideal S_ .f32 :=
  msd z (zq e (idx z e))

/-- How often each index occurs. -/
def bincount (i : IVec S131072 32) : IVec S512 32 :=
  Host.scatter scatter_S512_S131072x1_S131072_n_0_0_1 IntOp.addi
    (broadcastInDim S512 ![] bcast_S_S512 (constantI S_ 32 0#32))
    (wrap (maxsi (broadcastInDim S131072 ![] bcast_S_S131072 (id (constantI S_ 32 0#32))) i))
    (broadcastInDim S131072 ![] bcast_S_S131072 (constantI S_ 32 1#32))

/-- The fifth result: the counts. -/
def counts (z : FVec Ideal S16x32x8192 .f32) (e : FVec Ideal S512x32 .f32) : FVec Ideal S512 .f32 :=
  sitofp .f32 (bincount (idx z e))

/-- The frequencies that counts give. -/
def probs (n : FVec Ideal S512 .f32) : FVec Ideal S512 .f32 :=
  Host.divf n (broadcastInDim S512 ![] bcast_S_S512
    (maximumf (Host.reduceAdd n (constant S_ .f32 0x00000000#32) reducesTo_S512_S_d0 h_S_) (constant S_ .f32 0x3F800000#32)))

/-- The perplexity that counts give. -/
def perplexity (n : FVec Ideal S512 .f32) : FVec Ideal S_ .f32 :=
  Host.exp (Host.negf (Host.reduceAdd
    (mulf (probs n) (Host.log (addf (probs n) (broadcastInDim S512 ![] bcast_S_S512 (constant S_ .f32 0x2EDBE6FF#32)))))
    (constant S_ .f32 0x00000000#32) reducesTo_S512_S_d0 h_S_))

section
variable {F : FTy → Type} [FloatOps F]

/-- The distances: the operations up to `main_v15`. -/
abbrev opsDist : List (HloOp τ sig (Elt F)) :=
  [ unary main_arg0 main_v0 ((transpose S16x8192x32 [0, 2, 1] · transposes_S16x32x8192_S16x8192x32_0_2_1) : (⟨S16x32x8192, .f32⟩ : BufTy).Contents (Elt F) → (⟨S16x8192x32, .f32⟩ : BufTy).Contents (Elt F)),
    reshape main_v0 main_v1 (rfl : (.f32 : EltTy) = .f32) shapeCasts_S16x8192x32_S131072x32,
    binary main_arg1 main_arg1 main_v2 (mulf : (⟨S512x32, .f32⟩ : BufTy).Contents (Elt F) → (⟨S512x32, .f32⟩ : BufTy).Contents (Elt F) → (⟨S512x32, .f32⟩ : BufTy).Contents (Elt F)),
    nullary main_cst (constant S_ .f32 0x00000000#32),
    binary main_v2 main_cst main_v3 ((fun x v => Host.reduceAdd x v reducesTo_S512x32_S512_d1 h_S_) : (⟨S512x32, .f32⟩ : BufTy).Contents (Elt F) → (⟨S_, .f32⟩ : BufTy).Contents (Elt F) → (⟨S512, .f32⟩ : BufTy).Contents (Elt F)),
    binary main_v1 main_v1 main_v4 (mulf : (⟨S131072x32, .f32⟩ : BufTy).Contents (Elt F) → (⟨S131072x32, .f32⟩ : BufTy).Contents (Elt F) → (⟨S131072x32, .f32⟩ : BufTy).Contents (Elt F)),
    nullary main_cst_0 (constant S_ .f32 0x00000000#32),
    binary main_v4 main_cst_0 main_v5 ((fun x v => Host.reduceAdd x v reducesTo_S131072x32_S131072_d1 h_S_) : (⟨S131072x32, .f32⟩ : BufTy).Contents (Elt F) → (⟨S_, .f32⟩ : BufTy).Contents (Elt F) → (⟨S131072, .f32⟩ : BufTy).Contents (Elt F)),
    unary main_v5 main_v6 (broadcastInDim S131072x1 ![0] bcast_S131072_S131072x1_0 : (⟨S131072, .f32⟩ : BufTy).Contents (Elt F) → (⟨S131072x1, .f32⟩ : BufTy).Contents (Elt F)),
    unary main_arg1 main_v7 ((transpose S32x512 [1, 0] · transposes_S512x32_S32x512_1_0) : (⟨S512x32, .f32⟩ : BufTy).Contents (Elt F) → (⟨S32x512, .f32⟩ : BufTy).Contents (Elt F)),
    binary main_v1 main_v7 main_v8 ((fun l r => Host.dotGeneral dot_S131072x32_S32x512_S131072x512_1_0_0_1_n_n none l r) : (⟨S131072x32, .f32⟩ : BufTy).Contents (Elt F) → (⟨S32x512, .f32⟩ : BufTy).Contents (Elt F) → (⟨S131072x512, .f32⟩ : BufTy).Contents (Elt F)),
    nullary main_cst_1 (constant S_ .f32 0x40000000#32),
    unary main_cst_1 main_v9 (broadcastInDim S131072x512 ![] bcast_S_S131072x512 : (⟨S_, .f32⟩ : BufTy).Contents (Elt F) → (⟨S131072x512, .f32⟩ : BufTy).Contents (Elt F)),
    binary main_v9 main_v8 main_v10 (mulf : (⟨S131072x512, .f32⟩ : BufTy).Contents (Elt F) → (⟨S131072x512, .f32⟩ : BufTy).Contents (Elt F) → (⟨S131072x512, .f32⟩ : BufTy).Contents (Elt F)),
    unary main_v6 main_v11 (broadcastInDim S131072x512 ![0, 1] bcast_S131072x1_S131072x512_0_1 : (⟨S131072x1, .f32⟩ : BufTy).Contents (Elt F) → (⟨S131072x512, .f32⟩ : BufTy).Contents (Elt F)),
    binary main_v11 main_v10 main_v12 (subf : (⟨S131072x512, .f32⟩ : BufTy).Contents (Elt F) → (⟨S131072x512, .f32⟩ : BufTy).Contents (Elt F) → (⟨S131072x512, .f32⟩ : BufTy).Contents (Elt F)),
    unary main_v3 main_v13 (broadcastInDim S1x512 ![1] bcast_S512_S1x512_1 : (⟨S512, .f32⟩ : BufTy).Contents (Elt F) → (⟨S1x512, .f32⟩ : BufTy).Contents (Elt F)),
    unary main_v13 main_v14 (broadcastInDim S131072x512 ![0, 1] bcast_S1x512_S131072x512_0_1 : (⟨S1x512, .f32⟩ : BufTy).Contents (Elt F) → (⟨S131072x512, .f32⟩ : BufTy).Contents (Elt F)),
    binary main_v12 main_v14 main_v15 (addf : (⟨S131072x512, .f32⟩ : BufTy).Contents (Elt F) → (⟨S131072x512, .f32⟩ : BufTy).Contents (Elt F) → (⟨S131072x512, .f32⟩ : BufTy).Contents (Elt F)) ]

/-- The index of the least distance: `main_v16`. -/
abbrev opsArgmin : List (HloOp τ sig (Elt F)) :=
  [ TRef.nullary (TRef.of (T := ⟨S131072x512, .i32⟩) main_call0_v0) (iotaInDim S131072x512 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S131072x512, .f32⟩) main_v15) (TRef.of (T := ⟨S131072x512, .i32⟩) main_call0_v0) (TRef.of (T := ⟨S_, .f32⟩) main_call0_cst) (TRef.of (T := ⟨S_, .i32⟩) main_call0_c) (TRef.of (T := ⟨S131072, .f32⟩) main_call0_v1_0) (fun x y u v j => (Host.argReduce reducer_argmin_f32_i32 x y u v reducesTo_S131072x512_S131072_d1 h_S_ j).1),
    TRef.quaternary (TRef.of (T := ⟨S131072x512, .f32⟩) main_v15) (TRef.of (T := ⟨S131072x512, .i32⟩) main_call0_v0) (TRef.of (T := ⟨S_, .f32⟩) main_call0_cst) (TRef.of (T := ⟨S_, .i32⟩) main_call0_c) (TRef.of (T := ⟨S131072, .i32⟩) main_v16) (fun x y u v j => (Host.argReduce reducer_argmin_f32_i32 x y u v reducesTo_S131072x512_S131072_d1 h_S_ j).2) ]

/-- The rows of the codebook at the indices: `main_v17`. -/
abbrev opsTake : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S131072, .i32⟩) main_call1_v0) (broadcastInDim S131072 ![] bcast_S_S131072),
    TRef.binary (TRef.of (T := ⟨S131072, .i32⟩) main_v16) (TRef.of (T := ⟨S131072, .i32⟩) main_call1_v0) (TRef.of (T := ⟨S131072, .i1⟩) main_call1_v1) (cmpi .slt),
    TRef.nullary (TRef.of (T := ⟨S_, .i32⟩) main_call1_c_0) (constantI S_ 32 512#32),
    TRef.unary (TRef.of (T := ⟨S_, .i32⟩) main_call1_c_0) (TRef.of (T := ⟨S131072, .i32⟩) main_call1_v2) (broadcastInDim S131072 ![] bcast_S_S131072),
    TRef.binary (TRef.of (T := ⟨S131072, .i32⟩) main_v16) (TRef.of (T := ⟨S131072, .i32⟩) main_call1_v2) (TRef.of (T := ⟨S131072, .i32⟩) main_call1_v3) addi,
    TRef.ternary (TRef.of (T := ⟨S131072, .i1⟩) main_call1_v1) (TRef.of (T := ⟨S131072, .i32⟩) main_call1_v3) (TRef.of (T := ⟨S131072, .i32⟩) main_v16) (TRef.of (T := ⟨S131072, .i32⟩) main_call1_v4) select,
    TRef.unary (TRef.of (T := ⟨S131072, .i32⟩) main_call1_v4) (TRef.of (T := ⟨S131072x1, .i32⟩) main_call1_v5) (broadcastInDim S131072x1 ![0] bcast_S131072_S131072x1_0),
    TRef.nullary (TRef.of (T := ⟨S1, .i32⟩) main_call1_c_1) (constantI S1 32 511#32),
    TRef.nullary (TRef.of (T := ⟨S_, .i32⟩) main_call1_c_2) (constantI S_ 32 0#32),
    TRef.unary (TRef.of (T := ⟨S_, .i32⟩) main_call1_c_2) (TRef.of (T := ⟨S131072x1, .i32⟩) main_call1_v6) (broadcastInDim S131072x1 ![] bcast_S_S131072x1),
    TRef.binary (TRef.of (T := ⟨S131072x1, .i32⟩) main_call1_v5) (TRef.of (T := ⟨S131072x1, .i32⟩) main_call1_v6) (TRef.of (T := ⟨S131072x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S131072x1, .i32⟩) main_call1_v9) (broadcastInDim S131072x1 ![0, 1] bcast_S1x1_S131072x1_0_1),
    TRef.binary (TRef.of (T := ⟨S131072x1, .i32⟩) main_call1_v5) (TRef.of (T := ⟨S131072x1, .i32⟩) main_call1_v9) (TRef.of (T := ⟨S131072x1, .i1⟩) main_call1_v10) (cmpi .sle),
    TRef.binary (TRef.of (T := ⟨S131072x1, .i1⟩) main_call1_v7) (TRef.of (T := ⟨S131072x1, .i1⟩) main_call1_v10) (TRef.of (T := ⟨S131072x1, .i1⟩) main_call1_v11) andi,
    TRef.nullary (TRef.of (T := ⟨S_, .i1⟩) main_call1_c_3) (constantI S_ 1 1#1),
    TRef.binary (TRef.of (T := ⟨S131072x1, .i1⟩) main_call1_v11) (TRef.of (T := ⟨S_, .i1⟩) main_call1_c_3) (TRef.of (T := ⟨S131072, .i1⟩) main_call1_v12) (fun x v => Host.reduce IntOp.andi x v reducesTo_S131072x1_S131072_d1 h_S_),
    TRef.binary (TRef.of (T := ⟨S512x32, .f32⟩) main_arg1) (TRef.of (T := ⟨S131072x1, .i32⟩) main_call1_v5) (TRef.of (T := ⟨S131072x32, .f32⟩) main_call1_v13) (fun x i => Host.gather gather_S512x32_S131072x1_S131072x32_1_0_n_n_0_1_132 x i),
    TRef.unary (TRef.of (T := ⟨S131072, .i1⟩) main_call1_v12) (TRef.of (T := ⟨S131072x32, .i1⟩) main_call1_v14) (broadcastInDim S131072x32 ![0] bcast_S131072_S131072x32_0),
    TRef.nullary (TRef.of (T := ⟨S_, .f32⟩) main_call1_cst) (constant S_ .f32 0x7FC00000#32),
    TRef.unary (TRef.of (T := ⟨S_, .f32⟩) main_call1_cst) (TRef.of (T := ⟨S131072x32, .f32⟩) main_call1_v15) (broadcastInDim S131072x32 ![] bcast_S_S131072x32),
    TRef.ternary (TRef.of (T := ⟨S131072x32, .i1⟩) main_call1_v14) (TRef.of (T := ⟨S131072x32, .f32⟩) main_call1_v13) (TRef.of (T := ⟨S131072x32, .f32⟩) main_call1_v15) (TRef.of (T := ⟨S131072x32, .f32⟩) main_v17) select ]

/-- The first two results: `main_v21` and `main_v26`. -/
abbrev opsLoss : List (HloOp τ sig (Elt F)) :=
  [ reshape main_v17 main_v18 (rfl : (.f32 : EltTy) = .f32) shapeCasts_S131072x32_S16x8192x32,
    unary main_v18 main_v19 ((transpose S16x32x8192 [0, 2, 1] · transposes_S16x8192x32_S16x32x8192_0_2_1) : (⟨S16x8192x32, .f32⟩ : BufTy).Contents (Elt F) → (⟨S16x32x8192, .f32⟩ : BufTy).Contents (Elt F)),
    binary main_v19 main_arg0 main_v20 (subf : (⟨S16x32x8192, .f32⟩ : BufTy).Contents (Elt F) → (⟨S16x32x8192, .f32⟩ : BufTy).Contents (Elt F) → (⟨S16x32x8192, .f32⟩ : BufTy).Contents (Elt F)),
    binary main_arg0 main_v20 main_v21 (addf : (⟨S16x32x8192, .f32⟩ : BufTy).Contents (Elt F) → (⟨S16x32x8192, .f32⟩ : BufTy).Contents (Elt F) → (⟨S16x32x8192, .f32⟩ : BufTy).Contents (Elt F)),
    binary main_arg0 main_v19 main_v22 (subf : (⟨S16x32x8192, .f32⟩ : BufTy).Contents (Elt F) → (⟨S16x32x8192, .f32⟩ : BufTy).Contents (Elt F) → (⟨S16x32x8192, .f32⟩ : BufTy).Contents (Elt F)),
    binary main_v22 main_v22 main_v23 (mulf : (⟨S16x32x8192, .f32⟩ : BufTy).Contents (Elt F) → (⟨S16x32x8192, .f32⟩ : BufTy).Contents (Elt F) → (⟨S16x32x8192, .f32⟩ : BufTy).Contents (Elt F)),
    nullary main_cst_2 (constant S_ .f32 0x00000000#32),
    binary main_v23 main_cst_2 main_v24 ((fun x v => Host.reduceAdd x v reducesTo_S16x32x8192_S_d0_1_2 h_S_) : (⟨S16x32x8192, .f32⟩ : BufTy).Contents (Elt F) → (⟨S_, .f32⟩ : BufTy).Contents (Elt F) → (⟨S_, .f32⟩ : BufTy).Contents (Elt F)),
    nullary main_cst_3 (constant S_ .f32 0x4A800000#32),
    binary main_v24 main_cst_3 main_v25 (Host.divf : (⟨S_, .f32⟩ : BufTy).Contents (Elt F) → (⟨S_, .f32⟩ : BufTy).Contents (Elt F) → (⟨S_, .f32⟩ : BufTy).Contents (Elt F)),
    nullary main_cst_4 (constant S_ .f32 0x3E800000#32),
    binary main_cst_4 main_v25 main_v26 (mulf : (⟨S_, .f32⟩ : BufTy).Contents (Elt F) → (⟨S_, .f32⟩ : BufTy).Contents (Elt F) → (⟨S_, .f32⟩ : BufTy).Contents (Elt F)) ]

/-- The counts: `main_v37`. -/
abbrev opsCount : List (HloOp τ sig (Elt F)) :=
  [ nullary main_c (constantI S_ 32 0#32),
    unary main_c main_v27 (broadcastInDim S512 ![] bcast_S_S512 : (⟨S_, .i32⟩ : BufTy).Contents (Elt F) → (⟨S512, .i32⟩ : BufTy).Contents (Elt F)),
    nullary main_c_5 (constantI S_ 32 0#32),
    TRef.unary (TRef.of (T := ⟨S_, .i32⟩) main_c_5) (TRef.of (T := ⟨S_, .i32⟩) main_call2_v0) id,
    TRef.unary (TRef.of (T := ⟨S_, .i32⟩) main_call2_v0) (TRef.of (T := ⟨S131072, .i32⟩) main_call2_v1) (broadcastInDim S131072 ![] bcast_S_S131072),
    TRef.binary (TRef.of (T := ⟨S131072, .i32⟩) main_call2_v1) (TRef.of (T := ⟨S131072, .i32⟩) main_v16) (TRef.of (T := ⟨S131072, .i32⟩) main_v28) maxsi,
    nullary main_c_6 (constantI S_ 32 0#32),
    unary main_c_6 main_v29 (broadcastInDim S131072 ![] bcast_S_S131072 : (⟨S_, .i32⟩ : BufTy).Contents (Elt F) → (⟨S131072, .i32⟩ : BufTy).Contents (Elt F)),
    binary main_v28 main_v29 main_v30 (cmpi .slt : (⟨S131072, .i32⟩ : BufTy).Contents (Elt F) → (⟨S131072, .i32⟩ : BufTy).Contents (Elt F) → (⟨S131072, .i1⟩ : BufTy).Contents (Elt F)),
    nullary main_c_7 (constantI S_ 32 512#32),
    unary main_c_7 main_v31 (broadcastInDim S131072 ![] bcast_S_S131072 : (⟨S_, .i32⟩ : BufTy).Contents (Elt F) → (⟨S131072, .i32⟩ : BufTy).Contents (Elt F)),
    binary main_v28 main_v31 main_v32 (addi : (⟨S131072, .i32⟩ : BufTy).Contents (Elt F) → (⟨S131072, .i32⟩ : BufTy).Contents (Elt F) → (⟨S131072, .i32⟩ : BufTy).Contents (Elt F)),
    ternary main_v30 main_v32 main_v28 main_v33 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v33 main_v34 (broadcastInDim S131072x1 ![0] bcast_S131072_S131072x1_0 : (⟨S131072, .i32⟩ : BufTy).Contents (Elt F) → (⟨S131072x1, .i32⟩ : BufTy).Contents (Elt F)),
    nullary main_c_8 (constantI S_ 32 1#32),
    unary main_c_8 main_v35 (broadcastInDim S131072 ![] bcast_S_S131072 : (⟨S_, .i32⟩ : BufTy).Contents (Elt F) → (⟨S131072, .i32⟩ : BufTy).Contents (Elt F)),
    ternary main_v27 main_v34 main_v35 main_v36 ((fun x i u => Host.scatter scatter_S512_S131072x1_S131072_n_0_0_1 IntOp.addi x i u) : (⟨S512, .i32⟩ : BufTy).Contents (Elt F) → (⟨S131072x1, .i32⟩ : BufTy).Contents (Elt F) → (⟨S131072, .i32⟩ : BufTy).Contents (Elt F) → (⟨S512, .i32⟩ : BufTy).Contents (Elt F)),
    unary main_v36 main_v37 (sitofp .f32 : (⟨S512, .i32⟩ : BufTy).Contents (Elt F) → (⟨S512, .f32⟩ : BufTy).Contents (Elt F)) ]

/-- The perplexity and the indices in their shape: `main_v48` and `main_v49`. -/
abbrev opsPerp : List (HloOp τ sig (Elt F)) :=
  [ nullary main_cst_9 (constant S_ .f32 0x00000000#32),
    binary main_v37 main_cst_9 main_v38 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    nullary main_cst_10 (constant S_ .f32 0x3F800000#32),
    binary main_v38 main_cst_10 main_v39 (maximumf : (⟨S_, .f32⟩ : BufTy).Contents (Elt F) → (⟨S_, .f32⟩ : BufTy).Contents (Elt F) → (⟨S_, .f32⟩ : BufTy).Contents (Elt F)),
    unary main_v39 main_v40 (broadcastInDim S512 ![] bcast_S_S512 : (⟨S_, .f32⟩ : BufTy).Contents (Elt F) → (⟨S512, .f32⟩ : BufTy).Contents (Elt F)),
    binary main_v37 main_v40 main_v41 (Host.divf : (⟨S512, .f32⟩ : BufTy).Contents (Elt F) → (⟨S512, .f32⟩ : BufTy).Contents (Elt F) → (⟨S512, .f32⟩ : BufTy).Contents (Elt F)),
    nullary main_cst_11 (constant S_ .f32 0x2EDBE6FF#32),
    unary main_cst_11 main_v42 (broadcastInDim S512 ![] bcast_S_S512 : (⟨S_, .f32⟩ : BufTy).Contents (Elt F) → (⟨S512, .f32⟩ : BufTy).Contents (Elt F)),
    binary main_v41 main_v42 main_v43 (addf : (⟨S512, .f32⟩ : BufTy).Contents (Elt F) → (⟨S512, .f32⟩ : BufTy).Contents (Elt F) → (⟨S512, .f32⟩ : BufTy).Contents (Elt F)),
    unary main_v43 main_v44 (Host.log : (⟨S512, .f32⟩ : BufTy).Contents (Elt F) → (⟨S512, .f32⟩ : BufTy).Contents (Elt F)),
    binary main_v41 main_v44 main_v45 (mulf : (⟨S512, .f32⟩ : BufTy).Contents (Elt F) → (⟨S512, .f32⟩ : BufTy).Contents (Elt F) → (⟨S512, .f32⟩ : BufTy).Contents (Elt F)),
    nullary main_cst_12 (constant S_ .f32 0x00000000#32),
    binary main_v45 main_cst_12 main_v46 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    unary main_v46 main_v47 (Host.negf : (⟨S_, .f32⟩ : BufTy).Contents (Elt F) → (⟨S_, .f32⟩ : BufTy).Contents (Elt F)),
    unary main_v47 main_v48 (Host.exp : (⟨S_, .f32⟩ : BufTy).Contents (Elt F) → (⟨S_, .f32⟩ : BufTy).Contents (Elt F)),
    reshape main_v16 main_v49 (rfl : (.i32 : EltTy) = .i32) shapeCasts_S131072_S16x8192 ]

end

theorem after_app (a b : List (HloOp τ sig (Elt Ideal))) (V : Valuation τ sig (Elt Ideal)) :
    after (a ++ b) V = after b (after a V) := by
  induction a generalizing V with
  | nil => rfl
  | cons o a ih => exact ih _

variable (V : Valuation τ sig (Elt Ideal))

set_option maxRecDepth 8192 in
theorem after_dist : after (opsDist (F := Ideal)) V (Proc.devRef .tc main_v15)
      = dist (V (Proc.devRef .tc main_arg0)) (V (Proc.devRef .tc main_arg1))
    ∧ after (opsDist (F := Ideal)) V (Proc.devRef .tc main_arg0) = V (Proc.devRef .tc main_arg0)
    ∧ after (opsDist (F := Ideal)) V (Proc.devRef .tc main_arg1) = V (Proc.devRef .tc main_arg1) := by
  refine ⟨?_, ?_, ?_⟩ <;> (simp only [opsDist]; after_results_simp <;> rfl)

set_option maxRecDepth 8192 in
theorem after_argmin : after (opsArgmin (F := Ideal)) V (Proc.devRef .tc main_v16) = argmin (V (Proc.devRef .tc main_v15))
    ∧ after (opsArgmin (F := Ideal)) V (Proc.devRef .tc main_arg0) = V (Proc.devRef .tc main_arg0)
    ∧ after (opsArgmin (F := Ideal)) V (Proc.devRef .tc main_arg1) = V (Proc.devRef .tc main_arg1) := by
  refine ⟨?_, ?_, ?_⟩ <;> (simp only [opsArgmin, TRef.nullary, TRef.quaternary, TRef.toBuf, TRef.ofBuf, cast_eq]
                           after_results_simp <;> rfl)

set_option maxRecDepth 8192 in
theorem after_take : after (opsTake (F := Ideal)) V (Proc.devRef .tc main_v17)
      = take (V (Proc.devRef .tc main_arg1)) (V (Proc.devRef .tc main_v16))
    ∧ after (opsTake (F := Ideal)) V (Proc.devRef .tc main_arg0) = V (Proc.devRef .tc main_arg0)
    ∧ after (opsTake (F := Ideal)) V (Proc.devRef .tc main_arg1) = V (Proc.devRef .tc main_arg1)
    ∧ after (opsTake (F := Ideal)) V (Proc.devRef .tc main_v16) = V (Proc.devRef .tc main_v16) := by
  refine ⟨?_, ?_, ?_, ?_⟩ <;> (simp only [opsTake, TRef.binary, TRef.nullary, TRef.ternary, TRef.unary, TRef.toBuf, TRef.ofBuf, cast_eq]
                               after_results_simp <;> rfl)

set_option maxRecDepth 8192 in
theorem after_loss : after (opsLoss (F := Ideal)) V (Proc.devRef .tc main_v21)
      = addf (F := Ideal) (V (Proc.devRef .tc main_arg0)) (subf (unflat (V (Proc.devRef .tc main_v17))) (V (Proc.devRef .tc main_arg0)))
    ∧ after (opsLoss (F := Ideal)) V (Proc.devRef .tc main_v26) = msd (V (Proc.devRef .tc main_arg0)) (unflat (V (Proc.devRef .tc main_v17)))
    ∧ after (opsLoss (F := Ideal)) V (Proc.devRef .tc main_arg0) = V (Proc.devRef .tc main_arg0)
    ∧ after (opsLoss (F := Ideal)) V (Proc.devRef .tc main_arg1) = V (Proc.devRef .tc main_arg1)
    ∧ after (opsLoss (F := Ideal)) V (Proc.devRef .tc main_v16) = V (Proc.devRef .tc main_v16) := by
  refine ⟨?_, ?_, ?_, ?_, ?_⟩ <;> (simp only [opsLoss]; after_results_simp <;> rfl)

set_option maxRecDepth 8192 in
theorem after_count : after (opsCount (F := Ideal)) V (Proc.devRef .tc main_v37) = sitofp (F := Ideal) .f32 (bincount (V (Proc.devRef .tc main_v16)))
    ∧ after (opsCount (F := Ideal)) V (Proc.devRef .tc main_v21) = V (Proc.devRef .tc main_v21)
    ∧ after (opsCount (F := Ideal)) V (Proc.devRef .tc main_v26) = V (Proc.devRef .tc main_v26)
    ∧ after (opsCount (F := Ideal)) V (Proc.devRef .tc main_arg0) = V (Proc.devRef .tc main_arg0)
    ∧ after (opsCount (F := Ideal)) V (Proc.devRef .tc main_arg1) = V (Proc.devRef .tc main_arg1)
    ∧ after (opsCount (F := Ideal)) V (Proc.devRef .tc main_v16) = V (Proc.devRef .tc main_v16) := by
  refine ⟨?_, ?_, ?_, ?_, ?_, ?_⟩ <;> (simp only [opsCount, TRef.binary, TRef.unary, TRef.toBuf, TRef.ofBuf, cast_eq]
                                       after_results_simp <;> rfl)

set_option maxRecDepth 8192 in
theorem after_perp : after (opsPerp (F := Ideal)) V (Proc.devRef .tc main_v48) = perplexity (V (Proc.devRef .tc main_v37))
    ∧ after (opsPerp (F := Ideal)) V (Proc.devRef .tc main_v49) = shapeCast S16x8192 (V (Proc.devRef .tc main_v16) : IVec S131072 32) shapeCasts_S131072_S16x8192
    ∧ after (opsPerp (F := Ideal)) V (Proc.devRef .tc main_v21) = V (Proc.devRef .tc main_v21)
    ∧ after (opsPerp (F := Ideal)) V (Proc.devRef .tc main_v26) = V (Proc.devRef .tc main_v26)
    ∧ after (opsPerp (F := Ideal)) V (Proc.devRef .tc main_v37) = V (Proc.devRef .tc main_v37)
    ∧ after (opsPerp (F := Ideal)) V (Proc.devRef .tc main_arg0) = V (Proc.devRef .tc main_arg0)
    ∧ after (opsPerp (F := Ideal)) V (Proc.devRef .tc main_arg1) = V (Proc.devRef .tc main_arg1) := by
  refine ⟨?_, ?_, ?_, ?_, ?_, ?_, ?_⟩ <;> (simp only [opsPerp]; after_results_simp <;> rfl)

/-- All operations, in order. -/
abbrev ops : List (HloOp τ sig (Elt Ideal)) := opsDist ++ opsArgmin ++ opsTake ++ opsLoss ++ opsCount ++ opsPerp

set_option maxRecDepth 8192 in
set_option maxHeartbeats 4000000 in
theorem main_eq (c : Dev nD) : main (F := Ideal) c = seq ops := rfl

end Cert.VQ.Ref

end
-- ==== Proof.KRun.lean ====
/- The run of the kernel at the ideal numbers: what each result holds, over the arrays that the region leaves. -/
module

public import proofs.«01_k».proof.Proof.KArr
public import proofs.«01_k».proof.Proof.RefOps
public import Idealize.ShloMosaic.Lib.Claim

@[expose] public section

noncomputable section

namespace Cert.VQ.Ker

open Cert.KernelIdeal Cert.KernelIdeal.Gen Idealize.ShloMosaic Idealize.ShloMosaic.TcCoe Idealize.SL.Sem
open Idealize.ShloMosaic.StableHlo

/-- The two halves of the codebook, side by side: the codes rounded, and what the rounding leaves. -/
def ecat (e : FVec Ideal S512x32 .f32) : FVec Ideal S512x64 .bf16 :=
  concatenate S512x64 1 [⟨S512x32, truncf .bf16 e bitsLt_bf16_f32⟩,
    ⟨S512x32, truncf .bf16 (subf e (extf .f32 (truncf .bf16 e bitsLt_bf16_f32) bitsLt_bf16_f32)) bitsLt_bf16_f32⟩]
    concatenates_S512x32_S512x32_S512x64_d1

/-- The loss from the accumulated squared differences. -/
def lossOf (s : FVec Ideal S1x128 .f32) : FVec Ideal S_ .f32 :=
  mulf (constant S_ .f32 0x3E800000#32)
    (Host.divf (shapeCast S_ (extractStridedSlice S1x1 ![0, 0] s slices_S1x128_S1x1_0_0) shapeCasts_S1x1_S_)
      (constant S_ .f32 0x4A800000#32))

/-- The accumulated counts as a vector. -/
def countsOf (s : FVec Ideal S1x512 .f32) : FVec Ideal S512 .f32 := shapeCast S512 s shapeCasts_S1x512_S512

/-- The indices without the middle axis. -/
def idxOf (s : IVec S16x1x8192 32) : IVec S16x8192 32 := shapeCast S16x8192 s shapeCasts_S16x1x8192_S16x8192

section
variable (V : Valuation τ sig (Elt Ideal))

set_option maxRecDepth 8192 in
theorem after_head : after (hostOps0 (F := Ideal)) V (Proc.devRef .tc main_v4) = ecat (V (Proc.devRef .tc main_arg1)) := by
  simp only [hostOps0]
  after_results_simp <;> rfl

set_option maxRecDepth 8192 in
theorem after_tail :
    after (hostOps1 (F := Ideal)) V (Proc.devRef .tc main_v11) = lossOf (V (Proc.devRef .tc main_v5_3))
    ∧ after (hostOps1 (F := Ideal)) V (Proc.devRef .tc main_v6) = idxOf (V (Proc.devRef .tc main_v5_1))
    ∧ after (hostOps1 (F := Ideal)) V (Proc.devRef .tc main_v22) = Ref.perplexity (countsOf (V (Proc.devRef .tc main_v5_2)))
    ∧ after (hostOps1 (F := Ideal)) V (Proc.devRef .tc main_v7) = countsOf (V (Proc.devRef .tc main_v5_2)) := by
  refine ⟨?_, ?_, ?_, ?_⟩ <;> (simp only [hostOps1]; after_results_simp <;> rfl)

end

variable (m : (ℓ : Loc nD τ sig) → Buf (Elt Ideal) ℓ) (g : Dev nD → PrngReg)

theorem V_main_v4 (c : Dev nD) : V m c main_v4 = ecat (m ((c : Thread nD τ).loc main_arg1)) := by
  show after (List.flatten [hostOps0]) _ _ = _
  rw [List.flatten_cons, List.flatten_nil, List.append_nil]
  exact after_head _

theorem arrRef_inj : Function.Injective (Pipeline.arrRef (sig := sig) (cfgs 0).spec) := by decide

/-- The kernel runs, and its results are these, over what the region leaves. -/
theorem run :
    θ_run (defs (F := Ideal)) (onTc (τ := τ) (main (F := Ideal))) ⟨m, fun _ => 0, g⟩ (fun r => ∀ c : Dev nD,
      r.2.mem ((c.tc : Thread nD τ).loc main_v5_0) = res3 m c
      ∧ r.2.mem ((c.tc : Thread nD τ).loc main_v11) = lossOf (res6 m c)
      ∧ r.2.mem ((c.tc : Thread nD τ).loc main_v6) = idxOf (res4 m c)
      ∧ r.2.mem ((c.tc : Thread nD τ).loc main_v22) = Ref.perplexity (countsOf (res5 m c))
      ∧ r.2.mem ((c.tc : Thread nD τ).loc main_v7) = countsOf (res5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine θ_run_mono (run_main (F := Ideal) m g) fun r h c => ?_
  have tail : ∀ b : Ref sig .tc, b.isScoped = false → (∀ w, ((cfgs 0).spec w).arr.view.ref ≠ b) →
      r.2.mem ((c.tc : Thread nD τ).loc b)
        = after (hostOps1 (F := Ideal)) (Pipeline.withArrays (cfgs 0).spec c (V0 m c) fun w => (dats m 0 c).arrAt w (cfgs 0).N)
            (Proc.devRef .tc b) := fun b hs hb => by
    have := (h c).2 b (Pipeline.mem_restRefs_of b hs hb)
    rw [this]
    show after (List.flatten [hostOps1]) _ _ = _
    rw [List.flatten_cons, List.flatten_nil, List.append_nil]
  have rd : ∀ w, Pipeline.withArrays (cfgs 0).spec c (V0 m c) (fun w => (dats m 0 c).arrAt w (cfgs 0).N)
      (Proc.devRef .tc (Pipeline.arrRef (cfgs 0).spec w)) = (dats m 0 c).arrAt w (cfgs 0).N :=
    fun w => Pipeline.withArrays_arr _ arrRef_inj c _ _ w
  have r4 := (rd 4).trans (arr_4 m c)
  have r5 := (rd 5).trans (arr_5 m c)
  have r6 := (rd 6).trans (arr_6 m c)
  generalize Pipeline.withArrays (cfgs 0).spec c (V0 m c) (fun w => (dats m 0 c).arrAt w (cfgs 0).N) = W at tail r4 r5 r6
  obtain ⟨t1, t2, t3, t4⟩ := after_tail W
  refine ⟨((h c).1 3).trans (arr_3 m c), ?_, ?_, ?_, ?_,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩
  · exact (tail main_v11 rfl (by decide)).trans (t1.trans (congrArg lossOf r6))
  · exact (tail main_v6 rfl (by decide)).trans (t2.trans (congrArg idxOf r4))
  · exact (tail main_v22 rfl (by decide)).trans (t3.trans (congrArg (fun s => Ref.perplexity (countsOf s)) r5))
  · exact (tail main_v7 rfl (by decide)).trans (t4.trans (congrArg countsOf r5))

/-! ## The accumulation -/

variable (c : Dev nD)

section
variable {F : FTy → Type} [FloatOps F]
variable (m : (ℓ : Loc nD τ sig) → Buf (Elt F) ℓ)

theorem outs_5_zero (h : 0 < cfg0.N) :
    (outsAt0 m c 0 h).2.2.1 = k0_pay3 (k0_pay10 (iblk m c 0 ⟨0, h⟩) (iblk m c 1 ⟨0, h⟩) (iblk m c 2 ⟨0, h⟩)) := by
  rw [outsAt0_A m c ⟨0, h⟩ rfl (by simp), out_A_5]

theorem outs_6_zero (h : 0 < cfg0.N) :
    (outsAt0 m c 0 h).2.2.2 = k0_pay4 (k0_pay7 (iblk m c 0 ⟨0, h⟩)) (k0_pay11 (iblk m c 0 ⟨0, h⟩) (iblk m c 1 ⟨0, h⟩) (iblk m c 2 ⟨0, h⟩)) := by
  rw [outsAt0_A m c ⟨0, h⟩ rfl (by simp), out_A_6]

theorem outs_5_succ (n : Nat) (h : n + 1 < cfg0.N) :
    (outsAt0 m c (n + 1) h).2.2.1
      = k0_pay5 (k0_pay10 (iblk m c 0 ⟨n + 1, h⟩) (iblk m c 1 ⟨n + 1, h⟩) (iblk m c 2 ⟨n + 1, h⟩)) (outsAt0 m c n (by omega)).2.2.1 := by
  have hN : cfg0.N = 16 := N_0
  rw [outsAt0_B m c ⟨n + 1, h⟩ (by show ¬ (n + 1) % 16 = 0; omega) (by show 1 ≤ n + 1; omega), out_B_5]
  rfl

theorem outs_6_succ (n : Nat) (h : n + 1 < cfg0.N) :
    (outsAt0 m c (n + 1) h).2.2.2
      = k0_pay6 (k0_pay7 (iblk m c 0 ⟨n + 1, h⟩)) (k0_pay11 (iblk m c 0 ⟨n + 1, h⟩) (iblk m c 1 ⟨n + 1, h⟩) (iblk m c 2 ⟨n + 1, h⟩))
          (outsAt0 m c n (by omega)).2.2.2 := by
  have hN : cfg0.N = 16 := N_0
  rw [outsAt0_B m c ⟨n + 1, h⟩ (by show ¬ (n + 1) % 16 = 0; omega) (by show 1 ≤ n + 1; omega), out_B_6]
  rfl

end

end Cert.VQ.Ker

end
-- ==== Proof.KVal.lean ====
/- What the kernel computes from one block, entry by entry. -/
module

public import proofs.«01_k».proof.Proof.Spec
public import proofs.«01_k».proof.Proof.KRun
public import Idealize.ShloMosaic.Lib.ValueLayoutCasts

@[expose] public section

noncomputable section

namespace Cert.VQ.Ker

open Cert.KernelIdeal Cert.KernelIdeal.Gen Idealize.ShloMosaic Idealize.ShloMosaic.ValueIdx

variable (z : FVec Ideal S1x32x8192 .f32) (e : FVec Ideal S512x32 .f32)

/-- A token of a block. -/
abbrev tok (t : Fin 8192) : Fin 32 → EReal := fun c => z (ix3 (0 : Fin 1) c t)

/-- The codes as rows. -/
abbrev rows : Fin 512 → Fin 32 → EReal := fun k c => e (ix2 k c)

theorem pay7_apply (c : Fin 32) (t : Fin 8192) : k0_pay7 (F := Ideal) z (ix2 c t) = tok z t c :=
  shapeCast_1ab_ab_apply z _ c t

theorem pay8_eq (v : FVec Ideal S512x64 .bf16) : k0_pay8 (F := Ideal) v = v := shapeCast_self v _

theorem ecat_left (k : Fin 512) (c : Fin 32) : ecat e (ix2 k (⟨c.val, by omega⟩ : Fin 64)) = e (ix2 k c) :=
  concatenate_pair_apply_left (t := S512x64) (s₁ := S512x32) (s₂ := S512x32) 1 _ _ _ _ rfl (ix2 k c) fun b => match b with | ⟨0, _⟩ => rfl | ⟨1, _⟩ => rfl

theorem ecat_right (k : Fin 512) (c : Fin 32) :
    ecat e (ix2 k (⟨32 + c.val, by omega⟩ : Fin 64)) = e (ix2 k c) - e (ix2 k c) :=
  concatenate_pair_apply_right (t := S512x64) (s₁ := S512x32) (s₂ := S512x32) 1 _ _ _ _ rfl rfl (ix2 k c)
    (fun b => match b with | ⟨0, _⟩ => fun _ => rfl | ⟨1, _⟩ => fun h => absurd rfl h) (Nat.add_comm c.val 32)

/-- The slice of the codes that the distances are computed from. -/
theorem slice_left (v : FVec Ideal S512x64 .bf16) (k : Fin 512) (c : Fin 32) :
    extractStridedSlice S512x32 ![0, 0] v slices_S512x64_o0_0_S512x32 (ix2 k c) = v (ix2 k (⟨c.val, by omega⟩ : Fin 64)) :=
  extractStridedSlice_apply _ _ _ _ _ fun a => match a with | ⟨0, _⟩ => (Nat.zero_add _).symm | ⟨1, _⟩ => (Nat.zero_add _).symm

/-- The inner products. -/
theorem dots_apply (l : FVec Ideal S512x32 .bf16) (r : FVec Ideal S32x8192 .bf16) (k : Fin 512) (t : Fin 8192) :
    matmul dot_S512x32_S32x8192_S512x8192_1_0_0_1_n_n none l r (constant S512x8192 .f32 0x00000000#32) (ix2 k t)
      = ∑ c : Fin 32, l (ix2 k c) * r (ix2 c t) := by
  refine (Ideal.matmul_constant_zero_apply _ none _ _ _).trans (dot_one _ 32 rfl rfl l r _ (fun c => ix2 k c) (fun c => ix2 c t) ?_ ?_)
  · intro c; funext a; apply Fin.ext
    match a with
    | ⟨0, _⟩ => rfl
    | ⟨1, _⟩ => exact contrEquiv1_symm_val dot_S512x32_S32x8192_S512x8192_1_0_0_1_n_n 32 rfl rfl c
  · intro c; funext a; apply Fin.ext
    match a with
    | ⟨0, _⟩ => exact contrEquiv1_symm_val dot_S512x32_S32x8192_S512x8192_1_0_0_1_n_n 32 rfl rfl c
    | ⟨1, _⟩ => rfl

theorem xsq_apply (v : FVec Ideal S32x8192 .f32) (t : Fin 8192) :
    multiReduction .add [0] S8192 v 0x00000000#32 reduces_S32x8192_S8192 (.inl rfl) rfl (ix1 t) = ∑ c : Fin 32, v (ix2 c t) :=
  (Ideal.multiReduction_add_single v _ _ _ _ _).trans (Finset.sum_congr rfl fun c _ => congrArg v (lift_col _ t c))

theorem esq_apply (v : FVec Ideal S512x32 .f32) (k : Fin 512) :
    multiReduction .add [1] S512 v 0x00000000#32 reduces_S512x32_S512 (.inl rfl) rfl (ix1 k) = ∑ c : Fin 32, v (ix2 k c) :=
  (Ideal.multiReduction_add_single v _ _ _ _ _).trans (Finset.sum_congr rfl fun c _ => congrArg v (lift_row _ k c))

theorem bcol_apply (v : FVec Ideal S512x1 .f32) (k : Fin 512) (t : Fin 8192) :
    broadcastTo S512x8192 v broadcasts_S512x1_S512x8192 (ix2 k t) = v (ix2 k (0 : Fin 1)) :=
  broadcastTo_apply _ _ _ _ fun a => match a with | ⟨0, _⟩ => rfl | ⟨1, _⟩ => rfl

/-- The index that the kernel finds for a token is that of its nearest code. -/
theorem pay9_apply (t : Fin 8192) :
    k0_pay9 (F := Ideal) z e (ecat e) (ix1 t) = BitVec.ofNat 32 (near (tok z t) (rows e)).val := by
  unfold k0_pay9
  dsimp only
  rw [pay8_eq]
  refine (reduceIndex_col _ _ t).trans ?_
  refine congrArg (fun f => BitVec.ofNat 32 (first f).val) (funext fun k => ?_)
  simp only [addf_apply, subf_apply, mulf_apply, broadcast_apply]
  rw [broadcastTo_1b_ab_apply, shapeCast_a_1a_apply, xsq_apply, dots_apply, bcol_apply, shapeCast_a_a1_apply, esq_apply]
  simp only [mulf_apply, pay7_apply, slice_left, ecat_left, truncf_apply]
  rfl

/-- The kernel's index as a block of the second result. -/
theorem pay13_apply (t : Fin 8192) :
    k0_pay13 (F := Ideal) z e (ecat e) (ix3 (0 : Fin 1) (0 : Fin 1) t) = BitVec.ofNat 32 (near (tok z t) (rows e)).val := by
  unfold k0_pay13
  rw [← pay9_apply]
  refine shapeCast_apply _ _ _ _ ?_
  rw [Shape.rowMajor_val_one, Shape.rowMajor_val_three]
  simp

/-- Two small numbers are equal when their words are. -/
theorem word_inj {m n : Nat} (hm : m < 512) (hn : n < 512) : BitVec.ofNat 32 m = BitVec.ofNat 32 n ↔ m = n := by
  constructor
  · intro h
    have := congrArg BitVec.toNat h
    rwa [BitVec.toNat_ofNat, BitVec.toNat_ofNat, Nat.mod_eq_of_lt (by omega), Nat.mod_eq_of_lt (by omega)] at this
  · rintro rfl; rfl

/-- The table that marks, for each token, its nearest code. -/
theorem pay10_apply (k : Fin 512) (t : Fin 8192) :
    k0_pay10 (F := Ideal) z e (ecat e) (ix2 k t) = if near (tok z t) (rows e) = k then 1 else 0 := by
  unfold k0_pay10
  dsimp only
  simp only [truncf_apply, sitofp_apply, extui_apply]
  have hc : cmpi .eq (broadcastTo S512x8192 (iota .tc S512x1 32 [0] iota_S512x1_d0_w32) broadcasts_S512x1_S512x8192)
      (broadcastTo S512x8192 (shapeCast S1x8192 (k0_pay9 (F := Ideal) z e (ecat e)) shapeCasts_S8192_S1x8192) broadcasts_S1x8192_S512x8192) (ix2 k t)
      = BitVec.ofBool (decide (near (tok z t) (rows e) = k)) := by
    show BitVec.ofBool (_ == _) = _
    rw [broadcastTo_1b_ab_apply, shapeCast_a_1a_apply, pay9_apply]
    rw [broadcastTo_apply _ broadcasts_S512x1_S512x8192 (ix2 k t) (ix2 k (0 : Fin 1))
      (fun a => match a with | ⟨0, _⟩ => rfl | ⟨1, _⟩ => rfl), iota_single_apply]
    congr 1
    rw [Bool.eq_iff_iff, beq_iff_eq, decide_eq_true_eq]
    refine (word_inj k.isLt (Fin.isLt _)).trans ?_
    rw [Fin.ext_iff, eq_comm]
  rw [hc]
  show (((BitVec.setWidth 32 _).toInt : ℝ) : EReal) = _
  by_cases h : near (tok z t) (rows e) = k <;> simp [h]

/-- The table times the two halves of the codebook: the codes picked out. -/
theorem picked (v : FVec Ideal S512x64 .bf16) (c : Fin 64) (t : Fin 8192) :
    matmul dot_S512x64_S512x8192_S64x8192_0_0_1_1_n_n none v (k0_pay10 (F := Ideal) z e (ecat e)) (constant S64x8192 .f32 0x00000000#32) (ix2 c t)
      = v (ix2 (near (tok z t) (rows e)) c) := by
  refine (Ideal.matmul_constant_zero_apply _ none _ _ _).trans
    ((dot_one _ 512 rfl rfl v _ _ (fun k => ix2 k c) (fun k => ix2 k t) ?_ ?_).trans ?_)
  · intro c; funext a; apply Fin.ext
    match a with
    | ⟨0, _⟩ => exact contrEquiv1_symm_val dot_S512x64_S512x8192_S64x8192_0_0_1_1_n_n 512 rfl rfl c
    | ⟨1, _⟩ => rfl
  · intro c; funext a; apply Fin.ext
    match a with
    | ⟨0, _⟩ => exact contrEquiv1_symm_val dot_S512x64_S512x8192_S64x8192_0_0_1_1_n_n 512 rfl rfl c
    | ⟨1, _⟩ => rfl
  · simp only [pay10_apply]
    rw [Finset.sum_eq_single (near (tok z t) (rows e))]
    · rw [if_pos rfl, mul_one]
    · intro k _ hk; rw [if_neg (Ne.symm hk), mul_zero]
    · intro h; exact absurd (Finset.mem_univ _) h

/-- For finite codes, the code that the kernel gathers for a token is its nearest code. -/
theorem pay11_apply (he : ∀ i, e i ≠ ⊤ ∧ e i ≠ ⊥) (c : Fin 32) (t : Fin 8192) :
    k0_pay11 (F := Ideal) z e (ecat e) (ix2 c t) = e (ix2 (near (tok z t) (rows e)) c) := by
  unfold k0_pay11
  rw [pay8_eq, addf_apply]
  rw [extractStridedSlice_apply _ _ slices_S64x8192_o0_0_S32x8192 (ix2 c t) (ix2 (⟨c.val, by omega⟩ : Fin 64) t)
      (fun a => match a with | ⟨0, _⟩ => (Nat.zero_add _).symm | ⟨1, _⟩ => (Nat.zero_add _).symm),
    extractStridedSlice_apply _ _ slices_S64x8192_o32_0_S32x8192 (ix2 c t) (ix2 (⟨32 + c.val, by omega⟩ : Fin 64) t)
      (fun a => match a with | ⟨0, _⟩ => rfl | ⟨1, _⟩ => (Nat.zero_add _).symm), picked, picked, ecat_left, ecat_right]
  rw [EReal.sub_self (he _).1 (he _).2, add_zero]

/-- The kernel's codes as a block of the first result. -/
theorem pay12_apply (he : ∀ i, e i ≠ ⊤ ∧ e i ≠ ⊥) (c : Fin 32) (t : Fin 8192) :
    k0_pay12 (F := Ideal) z e (ecat e) (ix3 (0 : Fin 1) c t) = e (ix2 (near (tok z t) (rows e)) c) :=
  (shapeCast_ab_1ab_apply _ _ _ _ _).trans (pay11_apply z e he c t)

/-- The counts of one block. -/
theorem pay1_apply (k : Fin 512) :
    k0_pay1 (F := Ideal) (k0_pay10 (F := Ideal) z e (ecat e)) (ix2 (0 : Fin 1) k) = ∑ t : Fin 8192, if near (tok z t) (rows e) = k then (1 : EReal) else 0 := by
  unfold k0_pay1
  refine (Ideal.matmul_constant_zero_apply _ none _ _ _).trans
    ((dot_one _ 8192 rfl rfl _ _ _ (fun t => ix2 (0 : Fin 1) t) (fun t => ix2 k t) ?_ ?_).trans ?_)
  · intro c; funext a; apply Fin.ext
    match a with
    | ⟨0, _⟩ => rfl
    | ⟨1, _⟩ => exact contrEquiv1_symm_val dot_S1x8192_S512x8192_S1x512_1_1_0_0_n_n 8192 rfl rfl c
  · intro c; funext a; apply Fin.ext
    match a with
    | ⟨0, _⟩ => rfl
    | ⟨1, _⟩ => exact contrEquiv1_symm_val dot_S1x8192_S512x8192_S1x512_1_1_0_0_n_n 8192 rfl rfl c
  · refine Finset.sum_congr rfl fun t _ => ?_
    rw [pay10_apply, broadcast_apply]
    rw [show (Scalar.ofBits .bf16 0x3F80#16 : Ideal .bf16) = 1 from Idealize.ShloMosaic.Ideal.ofBits_one_bf16, one_mul]

/-- The loss of one block: all its squared differences. -/
theorem pay2_apply (v w : FVec Ideal S32x8192 .f32) (l : Fin 128) :
    k0_pay2 (F := Ideal) v w (ix1 l) = ∑ c : Fin 32, ∑ t : Fin 8192, (v (ix2 c t) - w (ix2 c t)) * (v (ix2 c t) - w (ix2 c t)) := by
  unfold k0_pay2
  dsimp only
  rw [broadcast_apply]
  refine (Ideal.multiReduction_add_total (shapeCast S1x32x8192 (mulf (subf v w) (subf v w)) shapeCasts_S32x8192_S1x32x8192)
    0x00000000#32 reduces_S1x32x8192_S1 (fun b => match b with | ⟨0, _⟩ => rfl) (.inl rfl) rfl _).trans ?_
  rw [sum_triple, Fin.sum_univ_one]
  refine Finset.sum_congr rfl fun c _ => Finset.sum_congr rfl fun t _ => ?_
  rw [shapeCast_ab_1ab_apply]
  rfl

end Cert.VQ.Ker
-- ==== Proof.KAcc.lean ====
/- The kernel's results over the whole arrays: the blocks put together and the two running sums. -/
module

public import proofs.«01_k».proof.Proof.KVal

@[expose] public section

noncomputable section

namespace Cert.VQ.Ker

open Cert.KernelIdeal Cert.KernelIdeal.Gen Idealize.ShloMosaic Idealize.ShloMosaic.ValueIdx Idealize.ShloMosaic.TcCoe

variable (m : (ℓ : Loc nD τ sig) → Buf (Elt Ideal) ℓ) (c : Dev nD)

/-- The tokens. -/
abbrev zIn : FVec Ideal S16x32x8192 .f32 := m ((c : Thread nD τ).loc main_arg0)

/-- The codes. -/
abbrev eIn : FVec Ideal S512x32 .f32 := m ((c : Thread nD τ).loc main_arg1)

theorem in_0 (b : Fin 16) : iblk m c 0 (pt b) = slab (zIn m c) b := iblk_0 m c b
theorem in_1 (t : Fin cfg0.N) : iblk m c 1 t = eIn m c := iblk_1 m c t
theorem in_2 (t : Fin cfg0.N) : iblk m c 2 t = ecat (eIn m c) := (iblk_2 m c t).trans (V_main_v4 m c)

theorem res3_eq (he : ∀ i, eIn m c i ≠ ⊤ ∧ eIn m c i ≠ ⊥) : res3 m c = specZq (zIn m c) (eIn m c) := by
  funext i
  obtain ⟨b, a, t, rfl⟩ : ∃ (b : Fin 16) (a : Fin 32) (t : Fin 8192), i = ix3 b a t := ⟨i 0, i 1, i 2, eq_ix3 i⟩
  show k0_pay12 (iblk m c 0 (pt b)) (iblk m c 1 (pt b)) (iblk m c 2 (pt b)) (ix3 (0 : Fin 1) a t) = _
  rw [in_0, in_1, in_2]
  exact pay12_apply _ _ he a t

theorem idx_eq : idxOf (res4 m c) = specIdx (zIn m c) (eIn m c) := by
  funext i
  obtain ⟨b, t, rfl⟩ : ∃ (b : Fin 16) (t : Fin 8192), i = ix2 b t := ⟨i 0, i 1, eq_ix2 i⟩
  refine (shapeCast_apply (res4 m c) shapeCasts_S16x1x8192_S16x8192 (ix2 b t) (ix3 b (0 : Fin 1) t) ?_).trans ?_
  · rw [Shape.rowMajor_val_three, Shape.rowMajor_val_two]
    show (b.val * 1 + 0) * 8192 + t.val = b.val * 8192 + t.val
    omega
  · show k0_pay13 (iblk m c 0 (pt b)) (iblk m c 1 (pt b)) (iblk m c 2 (pt b)) (ix3 (0 : Fin 1) (0 : Fin 1) t) = _
    rw [in_0, in_1, in_2]
    exact pay13_apply _ _ t

/-- The counts of one batch entry. -/
def cntAt (k : Fin 512) (b : Nat) : EReal :=
  if h : b < 16 then ∑ t : Fin 8192, if nearAt (zIn m c) (eIn m c) ⟨b, h⟩ t = k then (1 : EReal) else 0 else 0

theorem cnt_step (k : Fin 512) (n : Nat) (h : n < cfg0.N) :
    k0_pay1 (F := Ideal) (k0_pay10 (iblk m c 0 ⟨n, h⟩) (iblk m c 1 ⟨n, h⟩) (iblk m c 2 ⟨n, h⟩)) (ix2 (0 : Fin 1) k) = cntAt m c k n := by
  have hN : cfg0.N = 16 := N_0
  have hn : n < 16 := hN ▸ h
  rw [show (⟨n, h⟩ : Fin cfg0.N) = pt ⟨n, hn⟩ from rfl, in_0, in_1, in_2, pay1_apply, cntAt, dif_pos hn]
  rfl

theorem outs5 (k : Fin 512) (n : Nat) (h : n < cfg0.N) :
    (outsAt0 m c n h).2.2.1 (ix2 (0 : Fin 1) k) = ∑ b ∈ Finset.range (n + 1), cntAt m c k b := by
  induction n with
  | zero =>
    rw [outs_5_zero, Finset.sum_range_one, ← cnt_step m c k 0 h]
    unfold k0_pay3
    exact congrFun (shapeCast_shapeCast _ _ _) _
  | succ n ih =>
    rw [outs_5_succ, Finset.sum_range_succ, ← ih (by omega), ← cnt_step m c k (n + 1) h]
    unfold k0_pay5
    rw [shapeCast_a_1a_apply, addf_apply, shapeCast_1a_a_apply, shapeCast_1a_a_apply]

theorem counts_eq : countsOf (res5 m c) = specCounts (zIn m c) (eIn m c) := by
  funext i
  obtain ⟨k, rfl⟩ : ∃ k : Fin 512, i = ix1 k := ⟨i 0, eq_ix1 i⟩
  refine (shapeCast_1a_a_apply (res5 m c) _ k).trans
    ((show _ = ∑ b ∈ Finset.range 16, cntAt m c k b from outs5 m c k 15 _).trans ?_)
  rw [Finset.sum_range]
  show _ = countOf (zIn m c) (eIn m c) k
  unfold countOf
  refine Finset.sum_congr rfl fun b _ => ?_
  rw [cntAt, dif_pos b.isLt]

/-- The squared differences of one batch entry, by its number. -/
def sqNat (b : Nat) : EReal := if h : b < 16 then sqAt (zIn m c) (eIn m c) ⟨b, h⟩ else 0

theorem sq_step (he : ∀ i, eIn m c i ≠ ⊤ ∧ eIn m c i ≠ ⊥) (l : Fin 128) (n : Nat) (h : n < cfg0.N) :
    k0_pay2 (F := Ideal) (k0_pay7 (iblk m c 0 ⟨n, h⟩)) (k0_pay11 (iblk m c 0 ⟨n, h⟩) (iblk m c 1 ⟨n, h⟩) (iblk m c 2 ⟨n, h⟩)) (ix1 l)
      = sqNat m c n := by
  have hN : cfg0.N = 16 := N_0
  have hn : n < 16 := hN ▸ h
  rw [show (⟨n, h⟩ : Fin cfg0.N) = pt ⟨n, hn⟩ from rfl, in_0, in_1, in_2, pay2_apply, sqNat, dif_pos hn]
  refine Finset.sum_congr rfl fun a _ => Finset.sum_congr rfl fun t _ => ?_
  rw [pay7_apply, pay11_apply _ _ he]
  rfl

theorem outs6 (he : ∀ i, eIn m c i ≠ ⊤ ∧ eIn m c i ≠ ⊥) (l : Fin 128) (n : Nat) (h : n < cfg0.N) :
    (outsAt0 m c n h).2.2.2 (ix2 (0 : Fin 1) l) = ∑ b ∈ Finset.range (n + 1), sqNat m c b := by
  induction n with
  | zero =>
    rw [outs_6_zero, Finset.sum_range_one, ← sq_step m c he l 0 h]
    unfold k0_pay4
    exact shapeCast_a_1a_apply _ _ _ _
  | succ n ih =>
    rw [outs_6_succ, Finset.sum_range_succ, ← ih (by omega), ← sq_step m c he l (n + 1) h]
    unfold k0_pay6
    rw [shapeCast_a_1a_apply, addf_apply, shapeCast_1a_a_apply]

theorem loss_eq (he : ∀ i, eIn m c i ≠ ⊤ ∧ eIn m c i ≠ ⊥) : lossOf (res6 m c) = specLoss (zIn m c) (eIn m c) := by
  unfold lossOf specLoss
  refine congrArg (fun s => mulf (constant S_ .f32 0x3E800000#32) (Host.divf s (constant S_ .f32 0x4A800000#32))) ?_
  funext i
  refine (shapeCast_apply _ shapeCasts_S1x1_S_ i (ix2 (0 : Fin 1) (0 : Fin 1)) ?_).trans ?_
  · rw [Shape.rowMajor_val_two]
    have h1 := (S_.rowMajor i).isLt
    have h0 : S_.numel = 1 := by decide
    show 0 * 1 + 0 = (S_.rowMajor i).val
    omega
  · refine (extractStridedSlice_apply _ _ slices_S1x128_S1x1_0_0 _ (ix2 (0 : Fin 1) (0 : Fin 128))
      (fun a => match a with | ⟨0, _⟩ => rfl | ⟨1, _⟩ => rfl)).trans ((show _ = ∑ b ∈ Finset.range 16, sqNat m c b from outs6 m c he 0 15 _).trans ?_)
    rw [Finset.sum_range]
    refine Finset.sum_congr rfl fun b _ => ?_
    rw [sqNat, dif_pos b.isLt]

end Cert.VQ.Ker
-- ==== Proof.RefRun.lean ====
/- The run of the reference: what each result holds, as the stages over the two arguments. -/
module

public import proofs.«01_k».proof.Proof.RefOps
public import Idealize.ShloMosaic.Lib.Claim
public import Idealize.ShloMosaic.Lib.Quiescent
public import Idealize.ShloMosaic.Lib.StableHlo.RunHlo

@[expose] public section

noncomputable section

namespace Cert.VQ.Ref

open Cert.ReferenceIdeal Cert.ReferenceIdeal.Gen Idealize.ShloMosaic Idealize.ShloMosaic.TcCoe Idealize.SL.Sem
open Idealize.ShloMosaic.StableHlo

/-- What all operations leave. -/
theorem after_ops (V : Valuation τ sig (Elt Ideal)) :
    after ops V (Proc.devRef .tc main_v21)
        = zqSt (V (Proc.devRef .tc main_arg0)) (V (Proc.devRef .tc main_arg1))
    ∧ after ops V (Proc.devRef .tc main_v26)
        = loss (V (Proc.devRef .tc main_arg0)) (V (Proc.devRef .tc main_arg1))
    ∧ after ops V (Proc.devRef .tc main_v49)
        = shapeCast S16x8192 (idx (V (Proc.devRef .tc main_arg0)) (V (Proc.devRef .tc main_arg1))) shapeCasts_S131072_S16x8192
    ∧ after ops V (Proc.devRef .tc main_v48)
        = perplexity (counts (V (Proc.devRef .tc main_arg0)) (V (Proc.devRef .tc main_arg1)))
    ∧ after ops V (Proc.devRef .tc main_v37)
        = counts (V (Proc.devRef .tc main_arg0)) (V (Proc.devRef .tc main_arg1))
    ∧ after ops V (Proc.devRef .tc main_arg0) = V (Proc.devRef .tc main_arg0)
    ∧ after ops V (Proc.devRef .tc main_arg1) = V (Proc.devRef .tc main_arg1) := by
  rw [ops, after_app, after_app, after_app, after_app, after_app]
  have h1 := after_dist V
  generalize after (opsDist (F := Ideal)) V = V1 at h1 ⊢
  have h2 := after_argmin V1
  generalize after (opsArgmin (F := Ideal)) V1 = V2 at h2 ⊢
  have h3 := after_take V2
  generalize after (opsTake (F := Ideal)) V2 = V3 at h3 ⊢
  have h4 := after_loss V3
  generalize after (opsLoss (F := Ideal)) V3 = V4 at h4 ⊢
  have h5 := after_count V4
  generalize after (opsCount (F := Ideal)) V4 = V5 at h5 ⊢
  have h6 := after_perp V5
  generalize after (opsPerp (F := Ideal)) V5 = V6 at h6 ⊢
  obtain ⟨d1, d2, d3⟩ := h1
  obtain ⟨a1, a2, a3⟩ := h2
  obtain ⟨t1, t2, t3, t4⟩ := h3
  obtain ⟨l1, l2, l3, l4, l5⟩ := h4
  obtain ⟨c1, c2, c3, c4, c5, c6⟩ := h5
  obtain ⟨p1, p2, p3, p4, p5, p6, p7⟩ := h6
  have i : V3 (Proc.devRef .tc main_v16) = idx (V (Proc.devRef .tc main_arg0)) (V (Proc.devRef .tc main_arg1)) := by
    rw [t4, a1, d1, idx]
  have q : V3 (Proc.devRef .tc main_v17)
      = take (V (Proc.devRef .tc main_arg1)) (idx (V (Proc.devRef .tc main_arg0)) (V (Proc.devRef .tc main_arg1))) := by
    rw [t1, a1, a3, d1, d3, idx]
  refine ⟨?_, ?_, ?_, ?_, ?_, ?_, ?_⟩
  · rw [p3, c2, l1, q, t2, a2, d2, zqSt, zq]
  · rw [p4, c3, l2, q, t2, a2, d2, loss, zq]
  · rw [p2, c6, l5, i]
  · rw [p1, c1, l5, i, counts]
  · rw [p5, c1, l5, i, counts]
  · rw [p6, c4, l3, t2, a2, d2]
  · rw [p7, c5, l4, t3, a3, d3]

/-- Every operation of a stage determines what it writes. -/
theorem fresh_of {a b : List (HloOp τ sig (Elt Ideal))} (ha : ∀ op ∈ a, op.fresh = ∅) (hb : ∀ op ∈ b, op.fresh = ∅) :
    ∀ op ∈ a ++ b, op.fresh = ∅ := fun op h => (List.mem_append.mp h).elim (ha op) (hb op)

theorem fresh : ∀ op ∈ ops, op.fresh = ∅ := by
  refine fresh_of (fresh_of (fresh_of (fresh_of (fresh_of ?_ ?_) ?_) ?_) ?_) ?_ <;>
    (intro _ h; (repeat (cases h with | head => rfl | tail _ h => ?_)); exact nomatch h)

theorem bufs : ops.Forall fun op => op.bufs ⊆ tcRefs τ sig := by
  simp only [List.forall_append]
  refine ⟨⟨⟨⟨⟨?_, ?_⟩, ?_⟩, ?_⟩, ?_⟩, ?_⟩ <;> simp

variable (m : (ℓ : Loc nD τ sig) → Buf (Elt Ideal) ℓ) (g : Dev nD → PrngReg)

/-- The reference runs, and its results are the stages at the arguments. -/
theorem run :
    θ_run (defs (F := Ideal)) (onTc (τ := τ) (main (F := Ideal))) ⟨m, fun _ => 0, g⟩ (fun r => ∀ c : Dev nD,
      r.2.mem ((c.tc : Thread nD τ).loc main_v21)
          = zqSt (m ((c.tc : Thread nD τ).loc main_arg0)) (m ((c.tc : Thread nD τ).loc main_arg1))
      ∧ r.2.mem ((c.tc : Thread nD τ).loc main_v26)
          = loss (m ((c.tc : Thread nD τ).loc main_arg0)) (m ((c.tc : Thread nD τ).loc main_arg1))
      ∧ r.2.mem ((c.tc : Thread nD τ).loc main_v49)
          = shapeCast S16x8192 (idx (m ((c.tc : Thread nD τ).loc main_arg0)) (m ((c.tc : Thread nD τ).loc main_arg1)))
              shapeCasts_S131072_S16x8192
      ∧ r.2.mem ((c.tc : Thread nD τ).loc main_v48)
          = perplexity (counts (m ((c.tc : Thread nD τ).loc main_arg0)) (m ((c.tc : Thread nD τ).loc main_arg1)))
      ∧ r.2.mem ((c.tc : Thread nD τ).loc main_v37)
          = counts (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine θ_run_mono (run_seq (by decide) (by decide) defs main (fun _ => ops) main_eq (fun _ => bufs) m g (fun _ => fresh)) fun r h c => ?_
  obtain ⟨h1, h2, h3, h4, h5, h6, h7⟩ := after_ops (launchContents m c)
  exact ⟨(h c main_v21).trans h1, (h c main_v26).trans h2, (h c main_v49).trans h3, (h c main_v48).trans h4,
    (h c main_v37).trans h5, (h c main_arg0).trans h6, (h c main_arg1).trans h7⟩

/-- It leaves the arguments unchanged and every counter at zero: it has no counter. -/
theorem quiescent :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (run m g) fun r h => ⟨fun c => ⟨(h c).2.2.2.2.2.1, (h c).2.2.2.2.2.2⟩, sem_eq_zero_of_no_sems (by decide) r.2⟩

end Cert.VQ.Ref

end
-- ==== Proof.RefArg.lean ====
/- The reference's search along a row gives the first index of a least entry. -/
module

public import proofs.«01_k».proof.Proof.Spec
public import proofs.«01_k».proof.Proof.RefOps

@[expose] public section

noncomputable section

namespace Cert.VQ.Ref

open Cert.ReferenceIdeal Cert.ReferenceIdeal.Gen Idealize.ShloMosaic Idealize.ShloMosaic.ValueIdx

/-- The word of a small number is that number, signed too. -/
theorem toInt_word (n : Nat) (h : n < 2 ^ 31) : (BitVec.ofNat 32 n).toInt = n := by
  rw [BitVec.toInt_eq_toNat_of_lt] <;> rw [BitVec.toNat_ofNat, Nat.mod_eq_of_lt (by omega)]
  omega

/-- One step of the search: the earlier pair stays where it is less, or equal and of no later index. -/
theorem step (v w : EReal) (n k : Nat) (hn : n < 512) (hk : k < 512) :
    reducer_argmin_f32_i32 (F := Ideal) (v, BitVec.ofNat 32 n) (w, BitVec.ofNat 32 k)
      = if v < w ∨ (v = w ∧ n < k) then (v, BitVec.ofNat 32 n) else (w, BitVec.ofNat 32 k) := by
  have hs : IntOp.cmpi .slt (BitVec.ofNat 32 n) (BitVec.ofNat 32 k) = BitVec.ofBool (decide (n < k)) := by
    show BitVec.ofBool ((BitVec.ofNat 32 n).slt (BitVec.ofNat 32 k)) = _
    rw [BitVec.slt_eq_decide, toInt_word n (by omega), toInt_word k (by omega)]
    congr 1
    simp
  unfold reducer_argmin_f32_i32
  dsimp only
  rw [hs]
  simp only [Ideal.cmpf_def, Ideal.cmp]
  rcases lt_trichotomy v w with h | h | h
  · simp [h, h.ne, Scalar.select, IntOp.ori, IntOp.andi]
  · subst h
    by_cases hnk : n < k <;> simp [hnk, Scalar.select, IntOp.ori, IntOp.andi]
  · simp [h.ne', h.not_gt, Scalar.select, IntOp.ori, IntOp.andi]

/-- The search over a list of indices: what it ends in is among what it saw, and comes before all of it. -/
theorem search (f : Fin 512 → EReal) (L : List (Fin 512)) (v : EReal) (n : Nat) (hn : n < 512) :
    ∃ (v' : EReal) (n' : Nat), n' < 512
      ∧ (L.map fun k => (f k, BitVec.ofNat 32 k.val)).foldl (reducer_argmin_f32_i32 (F := Ideal)) (v, BitVec.ofNat 32 n)
          = (v', BitVec.ofNat 32 n')
      ∧ ((v' = v ∧ n' = n) ∨ ∃ k ∈ L, v' = f k ∧ n' = k.val)
      ∧ (v' < v ∨ (v' = v ∧ n' ≤ n))
      ∧ ∀ k ∈ L, v' < f k ∨ (v' = f k ∧ n' ≤ k.val) := by
  induction L generalizing v n with
  | nil => exact ⟨v, n, hn, rfl, .inl ⟨rfl, rfl⟩, .inr ⟨rfl, le_rfl⟩, fun k hk => by simp at hk⟩
  | cons a L ih =>
    rw [List.map_cons, List.foldl_cons, step v (f a) n a.val hn a.isLt]
    by_cases h : v < f a ∨ (v = f a ∧ n < a.val)
    · rw [if_pos h]
      obtain ⟨v', n', h1, h2, h3, h4, h5⟩ := ih v n hn
      refine ⟨v', n', h1, h2, ?_, h4, ?_⟩
      · rcases h3 with h3 | ⟨k, hk, h3⟩
        · exact .inl h3
        · exact .inr ⟨k, List.mem_cons_of_mem _ hk, h3⟩
      · intro k hk
        rcases List.mem_cons.1 hk with rfl | hk
        · rcases h4 with h4 | ⟨rfl, h4⟩
          · rcases h with h | ⟨rfl, h⟩
            · exact .inl (h4.trans h)
            · exact .inl h4
          · rcases h with h | ⟨h, h'⟩
            · exact .inl h
            · exact .inr ⟨h, by omega⟩
        · exact h5 k hk
    · rw [if_neg h]
      obtain ⟨v', n', h1, h2, h3, h4, h5⟩ := ih (f a) a.val a.isLt
      have hle : f a < v ∨ (f a = v ∧ a.val ≤ n) := by
        rcases lt_trichotomy v (f a) with h' | h' | h'
        · exact absurd (.inl h') h
        · exact .inr ⟨h'.symm, by by_contra hc; exact h (.inr ⟨h', by omega⟩)⟩
        · exact .inl h'
      refine ⟨v', n', h1, h2, ?_, ?_, ?_⟩
      · rcases h3 with ⟨h3, h3'⟩ | ⟨k, hk, h3⟩
        · exact .inr ⟨a, List.mem_cons_self, h3, h3'⟩
        · exact .inr ⟨k, List.mem_cons_of_mem _ hk, h3⟩
      · rcases h4 with h4 | ⟨rfl, h4⟩
        · rcases hle with hle | ⟨rfl, hle⟩
          · exact .inl (h4.trans hle)
          · exact .inl h4
        · rcases hle with hle | ⟨hle, hle'⟩
          · exact .inl hle
          · exact .inr ⟨hle, by omega⟩
      · intro k hk
        rcases List.mem_cons.1 hk with rfl | hk
        · exact h4
        · exact h5 k hk

/-- The search over a whole row, from `+∞` at index 0, in whatever order. -/
theorem search_all (f : Fin 512 → EReal) (L : List (Fin 512)) (hL : ∀ k, k ∈ L) :
    ((L.map fun k => (f k, BitVec.ofNat 32 k.val)).foldl (reducer_argmin_f32_i32 (F := Ideal)) (⊤, 0#32)).2
      = BitVec.ofNat 32 (first f).val := by
  obtain ⟨v, n, h1, h2, h3, h4, h5⟩ := search f L ⊤ 0 (by decide)
  rw [show (0#32 : BitVec 32) = BitVec.ofNat 32 0 from rfl, h2]
  have key : ∀ k : Fin 512, v = f k → n = k.val → BitVec.ofNat 32 n = BitVec.ofNat 32 (first f).val := by
    rintro k rfl rfl
    have : IsFirst f k := fun k' => h5 k' (hL k')
    rw [this.eq_first]
  rcases h3 with ⟨rfl, rfl⟩ | ⟨k, -, hv, hn⟩
  · exact key 0 (by rcases h5 0 (hL 0) with h | ⟨h, -⟩; exacts [absurd h not_top_lt, h]) rfl
  · exact key k hv hn

/-- The column of an entry. -/
def colOf {M : Nat} (i : (⟨2, ![M, 512]⟩ : Shape).Idx) : Fin 512 := i 1

/-- The index that the reference finds for a row. -/
theorem argReduce_row {M : Nat} {u : Shape} (x : FVec Ideal ⟨2, ![M, 512]⟩ .f32) (ix : u.Idx → EReal) (iy : IVec u 32)
    (h : (⟨2, ![M, 512]⟩ : Shape).ReducesTo [1] ⟨1, ![M]⟩) (h' : (⟨2, ![M, 512]⟩ : Shape).Reduces [1] ⟨1, ![M]⟩)
    (hu : 0 < u.numel) (hix : ix (Shape.Idx.first hu) = ⊤) (hiy : iy (Shape.Idx.first hu) = 0#32) (j : Fin M) :
    (Host.argReduce (reducer_argmin_f32_i32 (F := Ideal)) x (iotaInDim ⟨2, ![M, 512]⟩ 32 1) ix iy h hu (ix1 j)).2
      = BitVec.ofNat 32 (first fun k => x (ix2 j k)).val := by
  rw [Ideal.argReduce_eq_reduce2, Host.reduce2_eq_foldl_fiber, hix, hiy]
  let L : List (⟨2, ![M, 512]⟩ : Shape).Idx :=
    ((List.finRange (⟨2, ![M, 512]⟩ : Shape).numel).filter
      fun n => h.drop ((⟨2, ![M, 512]⟩ : Shape).rowMajor.symm n) = ix1 j).map (⟨2, ![M, 512]⟩ : Shape).rowMajor.symm
  have hL : ∀ i, i ∈ L → i = ix2 j (colOf i) := by
    intro i hi
    obtain ⟨n, hn, rfl⟩ := List.mem_map.1 hi
    have hd : h.drop ((⟨2, ![M, 512]⟩ : Shape).rowMajor.symm n) = ix1 j := by simpa using (List.mem_filter.1 hn).2
    rw [Shape.ReducesTo.drop_eq_drop h h'] at hd
    rw [← lift_row h' j, ← hd]
    exact (h'.lift_drop _).symm
  have e : Host.argReduceFiber x (iotaInDim ⟨2, ![M, 512]⟩ 32 1) h (ix1 j)
      = (L.map colOf).map fun k => (x (ix2 j k), BitVec.ofNat 32 k.val) := by
    rw [List.map_map]
    trans L.map fun i => (x i, iotaInDim ⟨2, ![M, 512]⟩ 32 1 i)
    · unfold Host.argReduceFiber
      rw [List.map_map]
      rfl
    · refine List.map_congr_left fun i hi => ?_
      rw [hL i hi]
      rfl
  rw [e]
  refine search_all (fun k => x (ix2 j k)) _ fun k => List.mem_map.2 ⟨ix2 j k, List.mem_map.2 ⟨(⟨2, ![M, 512]⟩ : Shape).rowMajor (ix2 j k), ?_, Equiv.symm_apply_apply _ _⟩, rfl⟩
  refine List.mem_filter.2 ⟨List.mem_finRange _, ?_⟩
  rw [Equiv.symm_apply_apply, decide_eq_true_eq, Shape.ReducesTo.drop_eq_drop h h', ← lift_row h' j k]
  exact h'.drop_lift (ix1 j) k

end Cert.VQ.Ref
-- ==== Proof.RefVal.lean ====
/- The reference's values, entry by entry, up to the nearest codes. -/
module

public import proofs.«01_k».proof.Proof.RefArg
public import Idealize.ShloMosaic.Lib.ReduceAll
public import Idealize.ShloMosaic.Lib.Routing.Ops

@[expose] public section

noncomputable section

namespace Cert.VQ.Ref

open Cert.ReferenceIdeal Cert.ReferenceIdeal.Gen Idealize.ShloMosaic Idealize.ShloMosaic.ValueIdx

variable (z : FVec Ideal S16x32x8192 .f32) (e : FVec Ideal S512x32 .f32)

/-- Batch entry and position as one token number. -/
def tokEquiv : Fin 16 × Fin 8192 ≃ Fin 131072 := finProdFinEquiv.trans (finCongr (by norm_num))

theorem tokEquiv_val (b : Fin 16) (t : Fin 8192) : (tokEquiv (b, t)).val = b.val * 8192 + t.val := by
  show t.val + 8192 * b.val = _
  omega

theorem exists_tok (n : Fin 131072) : ∃ b t, n = tokEquiv (b, t) := by
  obtain ⟨p, rfl⟩ := tokEquiv.surjective n
  exact ⟨p.1, p.2, rfl⟩

theorem flat_apply (b : Fin 16) (t : Fin 8192) (c : Fin 32) : flat z (ix2 (tokEquiv (b, t)) c) = z (ix3 b c t) := by
  refine (shapeCast_apply _ _ _ (ix3 b t c) ?_).trans (transpose_ix3_021_apply z _ b t c)
  rw [Shape.rowMajor_val_three, Shape.rowMajor_val_two]
  show (b.val * 8192 + t.val) * 32 + c.val = (tokEquiv (b, t)).val * 32 + c.val
  rw [tokEquiv_val]

/-- A sum along the rows. -/
theorem rowSum {M K : Nat} (x : FVec Ideal ⟨2, ![M, K]⟩ .f32) (h' : (⟨2, ![M, K]⟩ : Shape).ReducesTo [1] ⟨1, ![M]⟩)
    (h : (⟨2, ![M, K]⟩ : Shape).Reduces [1] ⟨1, ![M]⟩) (n : Fin M) :
    Host.reduceAdd x (constant S_ .f32 0x00000000#32) h' h_S_ (ix1 n) = ∑ k : Fin K, x (ix2 n k) := by
  rw [hostReduceAdd_apply, Ideal.hostReduceAdd_single h' h]
  rw [show (constant (F := Ideal) S_ .f32 0x00000000#32) (Shape.Idx.first h_S_) = 0 from Ideal.ofBits_zero_f32, zero_add]
  exact Finset.sum_congr rfl fun k _ => congrArg x (lift_row h n k)

theorem xSq_apply (b : Fin 16) (t : Fin 8192) : xSq z (ix1 (tokEquiv (b, t))) = ∑ c : Fin 32, z (ix3 b c t) * z (ix3 b c t) := by
  refine (rowSum _ _ (by decide) _).trans (Finset.sum_congr rfl fun c _ => ?_)
  rw [mulf_apply, flat_apply]

theorem eSq_apply (k : Fin 512) : eSq e (ix1 k) = ∑ c : Fin 32, e (ix2 k c) * e (ix2 k c) :=
  rowSum _ _ (by decide) _

theorem dots_apply (b : Fin 16) (t : Fin 8192) (k : Fin 512) :
    dots z e (ix2 (tokEquiv (b, t)) k) = ∑ c : Fin 32, e (ix2 k c) * z (ix3 b c t) := by
  unfold dots
  simp only [Host.dotGeneral]
  rw [Ideal.dotGeneral_apply]
  refine (dot_one _ 32 rfl rfl _ _ _ (fun c => ix2 (tokEquiv (b, t)) c) (fun c => ix2 c k) ?_ ?_).trans
    (Finset.sum_congr rfl fun c _ => ?_)
  · intro c; funext a; apply Fin.ext
    match a with
    | ⟨0, _⟩ => rfl
    | ⟨1, _⟩ => exact contrEquiv1_symm_val dot_S131072x32_S32x512_S131072x512_1_0_0_1_n_n 32 rfl rfl c
  · intro c; funext a; apply Fin.ext
    match a with
    | ⟨0, _⟩ => exact contrEquiv1_symm_val dot_S131072x32_S32x512_S131072x512_1_0_0_1_n_n 32 rfl rfl c
    | ⟨1, _⟩ => rfl
  · rw [flat_apply, transpose_ix2_apply, mul_comm]

/-- The reference's distances are those of the specification. -/
theorem dist_apply (b : Fin 16) (t : Fin 8192) (k : Fin 512) :
    dist z e (ix2 (tokEquiv (b, t)) k) = dval (fun c => z (ix3 b c t)) (fun k c => e (ix2 k c)) k := by
  unfold dist
  rw [addf_apply, subf_apply, mulf_apply, dots_apply]
  rw [broadcastInDim_apply _ bcast_S131072x1_S131072x512_0_1 _ _ (ix2 (tokEquiv (b, t)) (0 : Fin 1))
      (fun a => match a with | ⟨0, _⟩ => rfl | ⟨1, _⟩ => rfl),
    broadcastInDim_apply _ bcast_S131072_S131072x1_0 _ _ (ix1 (tokEquiv (b, t))) (fun a => match a with | ⟨0, _⟩ => rfl),
    broadcastInDim_apply _ bcast_S1x512_S131072x512_0_1 _ _ (ix2 (0 : Fin 1) k)
      (fun a => match a with | ⟨0, _⟩ => rfl | ⟨1, _⟩ => rfl),
    broadcastInDim_apply _ bcast_S512_S1x512_1 _ _ (ix1 k) (fun a => match a with | ⟨0, _⟩ => rfl),
    broadcastInDim_scalar_apply, xSq_apply, eSq_apply]
  rfl

theorem top_word : Ideal.ofBits .f32 0x7F800000#32 = ⊤ := by simp [Ideal.ofBits, Ideal.ieee]

theorem reduces_rows : (⟨2, ![131072, 512]⟩ : Shape).Reduces [1] ⟨1, ![131072]⟩ := by decide

theorem top_cell : (constant (F := Ideal) S_ .f32 0x7F800000#32) (Shape.Idx.first h_S_) = ⊤ := top_word

theorem zero_cell : (constantI S_ 32 0#32) (Shape.Idx.first h_S_) = 0#32 := rfl

theorem argmin_def (d : FVec Ideal S131072x512 .f32) :
    argmin d = fun j => (Host.argReduce (reducer_argmin_f32_i32 (F := Ideal)) d (iotaInDim ⟨2, ![131072, 512]⟩ 32 1)
      (constant (F := Ideal) S_ .f32 0x7F800000#32) (constantI S_ 32 0#32) reducesTo_S131072x512_S131072_d1 h_S_ j).2 := rfl

theorem argmin_row (d : FVec Ideal S131072x512 .f32) (n : Fin 131072) :
    (Host.argReduce (reducer_argmin_f32_i32 (F := Ideal)) d (iotaInDim ⟨2, ![131072, 512]⟩ 32 1)
      (constant (F := Ideal) S_ .f32 0x7F800000#32) (constantI S_ 32 0#32) reducesTo_S131072x512_S131072_d1 h_S_ (ix1 n)).2
      = BitVec.ofNat 32 (first fun k => d (ix2 n k)).val :=
  argReduce_row (M := 131072) d (constant (F := Ideal) S_ .f32 0x7F800000#32) (constantI S_ 32 0#32)
    reducesTo_S131072x512_S131072_d1 reduces_rows h_S_ top_cell zero_cell n

/-- The least entry of a row of distances. -/
theorem argmin_apply (d : FVec Ideal S131072x512 .f32) (n : Fin 131072) :
    argmin d (ix1 n) = BitVec.ofNat 32 (first fun k => d (ix2 n k)).val :=
  (congrFun (argmin_def d) (ix1 n)).trans (argmin_row d n)

/-- The reference's index of a token is that of its nearest code. -/
theorem idx_apply (b : Fin 16) (t : Fin 8192) : idx z e (ix1 (tokEquiv (b, t))) = BitVec.ofNat 32 (nearAt z e b t).val := by
  unfold idx
  rw [argmin_apply]
  unfold nearAt near
  simp only [dist_apply]

/-- The code number of a token number. -/
def code (n : Fin 131072) : Fin 512 := nearAt z e (tokEquiv.symm n).1 (tokEquiv.symm n).2

theorem code_tok (b : Fin 16) (t : Fin 8192) : code z e (tokEquiv (b, t)) = nearAt z e b t := by
  rw [code, Equiv.symm_apply_apply]

theorem idx_code (n : Fin 131072) : idx z e (ix1 n) = BitVec.ofNat 32 (code z e n).val := by
  obtain ⟨b, t, rfl⟩ := exists_tok n
  rw [idx_apply, code_tok]

/-! ## The rows that are taken -/

/-- The word of a code number is not below zero. -/
theorem not_neg (k : Fin 512) : (BitVec.ofNat 32 k.val).slt 0#32 = false := by
  rw [BitVec.slt_eq_decide, toInt_word _ (by omega)]
  simp

theorem wrap_apply (i : IVec S131072 32) (n : Fin 131072) (k : Fin 512) (h : i (ix1 n) = BitVec.ofNat 32 k.val) :
    wrap i (ix2 n (0 : Fin 1)) = BitVec.ofNat 32 k.val := by
  unfold wrap
  rw [broadcastInDim_apply _ bcast_S131072_S131072x1_0 _ _ (ix1 n) (fun a => match a with | ⟨0, _⟩ => rfl), select_apply]
  have hc : cmpi .slt i (broadcastInDim S131072 ![] bcast_S_S131072 (constantI S_ 32 0#32)) (ix1 n) = 0#1 := by
    show BitVec.ofBool ((i (ix1 n)).slt _) = 0#1
    rw [broadcastInDim_scalar_apply, h]
    exact congrArg BitVec.ofBool (not_neg k)
  rw [hc, select_zero, h]

/-- Every index names a code. -/
theorem inRange_apply (i : IVec S131072 32) (κ : Fin 131072 → Fin 512) (h : ∀ n, i (ix1 n) = BitVec.ofNat 32 (κ n).val)
    (n : Fin 131072) : inRange (wrap i) (ix1 n) = 1#1 := by
  unfold inRange
  refine Host.reduce_andi_one _ _ _ _ _ rfl fun p => ?_
  obtain ⟨q, u, rfl⟩ : ∃ (q : Fin 131072) (u : Fin 1), p = ix2 q u := ⟨p 0, p 1, eq_ix2 p⟩
  obtain rfl : u = 0 := Subsingleton.elim _ _
  show IntOp.andi (BitVec.ofBool (BitVec.sle _ (wrap i (ix2 q (0 : Fin 1))))) (BitVec.ofBool (BitVec.sle (wrap i (ix2 q (0 : Fin 1))) _)) = 1#1
  rw [broadcastInDim_scalar_apply, wrap_apply i q (κ q) (h q),
    broadcastInDim_apply _ bcast_S1x1_S131072x1_0_1 _ _ (ix2 (0 : Fin 1) (0 : Fin 1))
      (fun a => match a with | ⟨0, _⟩ => rfl | ⟨1, _⟩ => rfl),
    broadcastInDim_apply _ bcast_S1_S1x1_1 _ _ (ix1 (0 : Fin 1)) (fun a => match a with | ⟨0, _⟩ => rfl)]
  have h1 : BitVec.sle (0#32) (BitVec.ofNat 32 (κ q).val) = true := by
    rw [BitVec.sle_eq_decide, toInt_word (κ q).val (by omega), decide_eq_true_eq]
    exact Int.natCast_nonneg _
  have h2 : BitVec.sle (BitVec.ofNat 32 (κ q).val) (511#32) = true := by
    rw [BitVec.sle_eq_decide, toInt_word (κ q).val (by omega), decide_eq_true_eq]
    have := (κ q).isLt
    show ((κ q).val : Int) ≤ 511
    omega
  show IntOp.andi (BitVec.ofBool (BitVec.sle 0#32 _)) (BitVec.ofBool (BitVec.sle _ 511#32)) = 1#1
  rw [h1, h2]
  rfl

theorem take_apply (i : IVec S131072 32) (κ : Fin 131072 → Fin 512) (h : ∀ n, i (ix1 n) = BitVec.ofNat 32 (κ n).val)
    (n : Fin 131072) (c : Fin 32) : take e i (ix2 n c) = e (ix2 (κ n) c) := by
  unfold take
  rw [select_apply, broadcastInDim_apply _ bcast_S131072_S131072x32_0 _ _ (ix1 n) (fun a => match a with | ⟨0, _⟩ => rfl),
    inRange_apply i κ h, select_one]
  exact Routing.gather_row _ rfl rfl rfl rfl rfl e (wrap i) n c (κ n) (wrap_apply i n (κ n) (h n)) (by norm_num)

/-- The reference's codes, channels in the middle, are the nearest ones. -/
theorem zq_eq : zq e (idx z e) = specZq z e := by
  funext p
  obtain ⟨b, c, t, rfl⟩ : ∃ (b : Fin 16) (c : Fin 32) (t : Fin 8192), p = ix3 b c t := ⟨p 0, p 1, p 2, eq_ix3 p⟩
  refine (transpose_ix3_021_apply _ _ b c t).trans ((shapeCast_apply _ _ _ (ix2 (tokEquiv (b, t)) c) ?_).trans ?_)
  · rw [Shape.rowMajor_val_three, Shape.rowMajor_val_two]
    show (tokEquiv (b, t)).val * 32 + c.val = (b.val * 8192 + t.val) * 32 + c.val
    rw [tokEquiv_val]
  · rw [take_apply e _ (code z e) (idx_code z e), code_tok]
    rfl

/-- For finite inputs the first result is the nearest codes. -/
theorem zqSt_eq (hz : ∀ i, z i ≠ ⊤ ∧ z i ≠ ⊥) (he : ∀ i, e i ≠ ⊤ ∧ e i ≠ ⊥) : zqSt z e = specZq z e := by
  unfold zqSt
  rw [zq_eq]
  funext p
  rw [addf_apply, subf_apply]
  have h1 := hz p
  have h2 := he (ix2 (nearAt z e (p 0) (p 2)) (p 1))
  show z p + (e (ix2 (nearAt z e (p 0) (p 2)) (p 1)) - z p) = e (ix2 (nearAt z e (p 0) (p 2)) (p 1))
  generalize z p = x at h1 ⊢
  generalize e (ix2 (nearAt z e (p 0) (p 2)) (p 1)) = y at h2 ⊢
  lift x to ℝ using h1
  lift y to ℝ using h2
  rw [← EReal.coe_sub, ← EReal.coe_add, add_sub_cancel]

/-- The indices as the third result. -/
theorem idx_eq : shapeCast S16x8192 (idx z e) shapeCasts_S131072_S16x8192 = specIdx z e := by
  funext p
  obtain ⟨b, t, rfl⟩ : ∃ (b : Fin 16) (t : Fin 8192), p = ix2 b t := ⟨p 0, p 1, eq_ix2 p⟩
  refine (shapeCast_apply _ _ _ (ix1 (tokEquiv (b, t))) ?_).trans (idx_apply z e b t)
  rw [Shape.rowMajor_val_one, Shape.rowMajor_val_two]
  exact tokEquiv_val b t

/-- The loss. -/
theorem loss_eq : loss z e = specLoss z e := by
  unfold loss msd specLoss
  rw [zq_eq]
  refine congrArg (fun s => mulf (constant S_ .f32 0x3E800000#32) (Host.divf s (constant S_ .f32 0x4A800000#32))) ?_
  funext p
  rw [hostReduceAdd_apply, Ideal.hostReduceAdd_total _ (fun b => b.elim0)]
  rw [show (constant (F := Ideal) S_ .f32 0x00000000#32) (Shape.Idx.first h_S_) = 0 from Ideal.ofBits_zero_f32, zero_add, sum_triple]
  rfl

end Cert.VQ.Ref
-- ==== Proof.RefCount.lean ====
/- The reference's counts: how often each code is the nearest one. -/
module

public import proofs.«01_k».proof.Proof.RefVal
public import Idealize.ShloMosaic.Lib.Routing.OpsPair

@[expose] public section

noncomputable section

namespace Cert.VQ.Ref

open Cert.ReferenceIdeal Cert.ReferenceIdeal.Gen Idealize.ShloMosaic Idealize.ShloMosaic.ValueIdx

/-- An update lands on the bin that its index names. -/
theorem lands {N K : Nat} (d : ScatterDims ⟨1, ![K]⟩ ⟨2, ![N, 1]⟩ ⟨1, ![N]⟩) (hw : d.insertedWindowDims = [0])
    (ho : d.scatterDimsToOperandDims = [0]) (hv : d.indexVectorDim = 1) (w : IVec ⟨2, ![N, 1]⟩ 32) (n : Fin N) (x : Fin K) :
    d.resultIdx? (ix1 n) w = some (ix1 x) ↔ (w (ix2 n (0 : Fin 1))).toInt = (x.val : Int) := by
  have hm : (0 : Fin 1) ∈ d.scatterDimsToOperandDims := by rw [ho]; exact List.mem_singleton.2 rfl
  have hwindow : d.window (ix1 n) 0 = 0 := by
    unfold ScatterDims.window
    rw [dif_neg fun h => (of_decide_eq_true (List.mem_filter.1 h).2) (by rw [hw]; exact List.mem_singleton.2 rfl)]
  have hat : d.siIdx (ix1 n) ⟨d.scatterDimsToOperandDims.idxOf 0, List.idxOf_lt_length_iff.2 hm⟩ = ix2 n (0 : Fin 1) := by
    funext a
    apply Fin.ext
    match a with
    | ⟨0, _⟩ =>
      unfold ScatterDims.siIdx
      rw [dif_neg (by rw [hv]; exact Nat.zero_ne_one)]
      unfold ScatterDims.siCoord
      simp only [Fin.val_cast]
      have one : ∀ X : Fin 1, (ix1 n X).val = n.val := fun X => by
        obtain rfl : X = 0 := Subsingleton.elim _ _
        rfl
      exact one _
    | ⟨1, _⟩ =>
      unfold ScatterDims.siIdx
      rw [dif_pos (by rw [hv])]
      show List.idxOf (0 : Fin 1) d.scatterDimsToOperandDims = 0
      rw [ho]; simp
  have hstart : d.start (ix1 n) w 0 = (w (ix2 n (0 : Fin 1))).toInt := by
    unfold ScatterDims.start
    rw [dif_pos hm, hat]
  rw [Routing.resultIdx?_eq_some]
  constructor
  · intro h
    have h0 := h 0
    rw [hstart, hwindow] at h0
    exact (add_zero _).symm.trans h0
  · intro h a
    match a with
    | ⟨0, _⟩ =>
      show d.start (ix1 n) w 0 + (d.window (ix1 n) 0 : Int) = (x.val : Int)
      rw [hstart, hwindow, h]
      simp

/-- A fold that adds one word for each member with a property. -/
theorem foldl_ones {ι : Type} (P : ι → Prop) [DecidablePred P] (v : ι → BitVec 32) (hv : ∀ n, v n = 1#32) (L : List ι) (a : Nat) :
    L.foldl (fun r n => if P n then IntOp.addi r (v n) else r) (BitVec.ofNat 32 a)
      = BitVec.ofNat 32 (a + (L.map fun n => if P n then 1 else 0).sum) := by
  induction L generalizing a with
  | nil => rfl
  | cons n L ih =>
    rw [List.foldl_cons, List.map_cons, List.sum_cons]
    by_cases h : P n
    · rw [if_pos h, if_pos h, hv, show IntOp.addi (BitVec.ofNat 32 a) 1#32 = BitVec.ofNat 32 (a + 1) from (BitVec.ofNat_add a 1).symm,
        ih, Nat.add_assoc]
    · rw [if_neg h, if_neg h, ih, Nat.zero_add]

/-- An index of one axis as its coordinate. -/
def lineEquiv (N : Nat) : Fin N ≃ (⟨1, ![N]⟩ : Shape).Idx := ⟨ix1, fun i => i 0, fun _ => rfl, fun i => (eq_ix1 i).symm⟩

/-- A scatter that adds ones counts the indices. -/
theorem scatter_ones {N K : Nat} (d : ScatterDims ⟨1, ![K]⟩ ⟨2, ![N, 1]⟩ ⟨1, ![N]⟩) (hw : d.insertedWindowDims = [0])
    (ho : d.scatterDimsToOperandDims = [0]) (hv : d.indexVectorDim = 1) (hK : K < 2 ^ 31) (x0 : IVec ⟨1, ![K]⟩ 32) (h0 : ∀ i, x0 i = 0#32)
    (w : IVec ⟨2, ![N, 1]⟩ 32) (u : IVec ⟨1, ![N]⟩ 32) (hu : ∀ i, u i = 1#32) (κ : Fin N → Fin K)
    (hκ : ∀ n, w (ix2 n (0 : Fin 1)) = BitVec.ofNat 32 (κ n).val) (x : Fin K) :
    Host.scatter d IntOp.addi x0 w u (ix1 x) = BitVec.ofNat 32 (∑ n : Fin N, if κ n = x then 1 else 0) := by
  rw [Routing.scatter_at, h0]
  refine (foldl_ones (fun n => d.resultIdx? ((⟨1, ![N]⟩ : Shape).rowMajor.symm n) w = some (ix1 x)) _ (fun n => hu _) _ 0).trans ?_
  rw [Nat.zero_add, ← Fin.sum_univ_def,
    Equiv.sum_comp (⟨1, ![N]⟩ : Shape).rowMajor.symm (fun i => if d.resultIdx? i w = some (ix1 x) then 1 else 0),
    ← Equiv.sum_comp (lineEquiv N)]
  refine congrArg (BitVec.ofNat 32) (Finset.sum_congr rfl fun n _ => if_congr ?_ rfl rfl)
  show d.resultIdx? (ix1 n) w = some (ix1 x) ↔ _
  have hn := (κ n).isLt
  rw [lands d hw ho hv, hκ, toInt_word _ (by omega)]
  exact ⟨fun h => Fin.ext (by exact_mod_cast h), fun h => by rw [h]⟩

theorem ones_le {N : Nat} (P : Fin N → Prop) [DecidablePred P] : (∑ n : Fin N, if P n then 1 else 0) ≤ N := by
  refine (Finset.sum_le_card_nsmul _ _ 1 fun n _ => ?_).trans ?_
  · split <;> omega
  · simp

/-- A count as an extended real. -/
theorem ones_cast {ι : Type} (P : ι → Prop) [DecidablePred P] (s : Finset ι) :
    (((((∑ n ∈ s, if P n then 1 else 0 : ℕ) : ℤ) : ℝ)) : EReal) = ∑ n ∈ s, if P n then (1 : EReal) else 0 := by
  classical
  induction s using Finset.induction_on with
  | empty => simp
  | insert a s ha ih =>
    rw [Finset.sum_insert ha, Finset.sum_insert ha, ← ih]
    split <;> simp

variable (z : FVec Ideal S16x32x8192 .f32) (e : FVec Ideal S512x32 .f32)

/-- The index word is kept by the maximum with zero. -/
theorem maxsi_word (k : Fin 512) : IntOp.maxsi 0#32 (BitVec.ofNat 32 k.val) = BitVec.ofNat 32 k.val := by
  unfold IntOp.maxsi
  rw [not_neg k]
  rfl

theorem clamp_apply (n : Fin 131072) :
    maxsi (broadcastInDim S131072 ![] bcast_S_S131072 (id (constantI S_ 32 0#32))) (idx z e) (ix1 n) = BitVec.ofNat 32 (code z e n).val := by
  show IntOp.maxsi (broadcastInDim S131072 ![] bcast_S_S131072 (id (constantI S_ 32 0#32)) (ix1 n)) (idx z e (ix1 n)) = _
  rw [broadcastInDim_scalar_apply, idx_code]
  exact maxsi_word _

theorem bincount_apply (k : Fin 512) :
    bincount (idx z e) (ix1 k) = BitVec.ofNat 32 (∑ n : Fin 131072, if code z e n = k then 1 else 0) :=
  scatter_ones scatter_S512_S131072x1_S131072_n_0_0_1 rfl rfl rfl (by norm_num) _
    (fun i => broadcastInDim_scalar_apply _ _ i) _ _ (fun i => broadcastInDim_scalar_apply _ _ i) (code z e)
    (fun n => wrap_apply _ n (code z e n) (clamp_apply z e n)) k

/-- The reference's counts are the counts of the nearest codes. -/
theorem counts_eq : counts z e = specCounts z e := by
  funext i
  obtain ⟨k, rfl⟩ : ∃ k : Fin 512, i = ix1 k := ⟨i 0, eq_ix1 i⟩
  have hle := ones_le fun n => code z e n = k
  show ((((bincount (idx z e) (ix1 k)).toInt : ℝ)) : EReal) = countOf z e k
  rw [bincount_apply, toInt_word _ (by omega), ones_cast, ← Equiv.sum_comp tokEquiv, Fintype.sum_prod_type]
  simp only [code_tok]
  rfl

end Cert.VQ.Ref

end
-- ==== Proof.Pre.lean ====
/- What the precondition says of the two inputs: no entry is infinite. -/
module

public import proofs.«01_k».proof.Proof.Gen.Pre_nearest_unique
public import proofs.«01_k».proof.Proof.RefVal

@[expose] public section

noncomputable section

namespace Cert.VQ

open Idealize.ShloMosaic Idealize.ShloMosaic.ValueIdx

/-- A magnitude below the top is that of a finite number. -/
theorem finite_of_abs {s : Shape} (x : FVec Ideal s .f32) (h : Cert.Pre_nearest_unique.S_.BroadcastsInDim s (![] : Fin 0 → Fin s.rank)) (i : s.Idx)
    (hx : cmpf .olt (Host.absf x) (broadcastInDim s ![] h (constant (F := Ideal) Cert.Pre_nearest_unique.S_ .f32 0x7F800000#32)) i = 1#1) :
    x i ≠ ⊤ ∧ x i ≠ ⊥ := by
  have hlt : max (x i) (-(x i)) < ⊤ := by
    have h2 : BitVec.ofBool (decide (max (x i) (-(x i)) < Ideal.ofBits .f32 0x7F800000#32)) = 1#1 := by
      refine Eq.trans ?_ hx
      show _ = BitVec.ofBool (decide (max (x i) (-(x i)) < broadcastInDim s ![] h (constant (F := Ideal) Cert.Pre_nearest_unique.S_ .f32 0x7F800000#32) i))
      rw [broadcastInDim_scalar_apply]
      rfl
    rw [Ref.top_word] at h2
    by_contra hn
    rw [decide_eq_false hn] at h2
    exact absurd h2 (by decide)
  rw [max_lt_iff] at hlt
  refine ⟨hlt.1.ne, fun hb => ?_⟩
  rw [hb, EReal.neg_bot] at hlt
  exact lt_irrefl _ hlt.2

open Cert.Pre_nearest_unique Cert.Pre_nearest_unique.Gen in
/-- Under the precondition both inputs are finite. -/
theorem finite_of_pre (z : FVec Ideal S16x32x8192 .f32) (e : FVec Ideal S512x32 .f32) (h : fn (F := Ideal) z e = fun _ => 1#1) :
    (∀ i, z i ≠ ⊤ ∧ z i ≠ ⊥) ∧ (∀ i, e i ≠ ⊤ ∧ e i ≠ ⊥) := by
  have h0 := congrFun h ix0
  unfold fn fn_part1 at h0
  have h1 := (IntOp.andi_eq_one.1 h0).1
  have h2 := IntOp.andi_eq_one.1 h1
  haveI : Subsingleton S_.Idx := ⟨fun a b => funext fun k => k.elim0⟩
  exact ⟨fun i => finite_of_abs z _ i (Host.reduce_andi_all _ _ _ _ _ h2.1 i),
    fun i => finite_of_abs e _ i (Host.reduce_andi_all _ _ _ _ _ h2.2 i)⟩

end Cert.VQ

end
-- ==== Proof.lean ====
/- The certificate: the kernel, its idealization and the reference run and leave their arguments and the counters as they
   found them, and the kernel and the reference give the same five results over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_nearest_unique
public import proofs.«01_k».proof.Proof.KAcc
public import proofs.«01_k».proof.Proof.RefRun
public import proofs.«01_k».proof.Proof.RefCount
public import proofs.«01_k».proof.Proof.Pre
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel and the reference give the same five results. -/
theorem same :
    Cert.algebraic_KernelIdeal_ReferenceIdeal (hKernelIdeal := Cert.KernelIdeal.Gen.facts)
      (hReferenceIdeal := Cert.ReferenceIdeal.Gen.facts) (hPre_nearest_unique := Cert.Pre_nearest_unique.Gen.facts) := by
  intro m g m' g' hpre hagree
  have fin := fun c => Cert.VQ.finite_of_pre _ _ (hpre c)
  refine ⟨fun c => Cert.VQ.specZq (Cert.VQ.Ker.zIn m c) (Cert.VQ.Ker.eIn m c),
    fun c => Cert.VQ.specLoss (Cert.VQ.Ker.zIn m c) (Cert.VQ.Ker.eIn m c),
    fun c => Cert.VQ.specIdx (Cert.VQ.Ker.zIn m c) (Cert.VQ.Ker.eIn m c),
    fun c => Cert.VQ.Ref.perplexity (Cert.VQ.specCounts (Cert.VQ.Ker.zIn m c) (Cert.VQ.Ker.eIn m c)),
    fun c => Cert.VQ.specCounts (Cert.VQ.Ker.zIn m c) (Cert.VQ.Ker.eIn m c), ?_, ?_⟩
  · refine θ_run_mono (Cert.VQ.Ker.run m g) fun r h c => ?_
    obtain ⟨h1, h2, h3, h4, h5, h6, h7⟩ := h c
    exact ⟨h1.trans (Cert.VQ.Ker.res3_eq m c (fin c).2), h2.trans (Cert.VQ.Ker.loss_eq m c (fin c).2),
      h3.trans (Cert.VQ.Ker.idx_eq m c), h4.trans (congrArg Cert.VQ.Ref.perplexity (Cert.VQ.Ker.counts_eq m c)),
      h5.trans (Cert.VQ.Ker.counts_eq m c), h6, h7⟩
  · refine θ_run_mono (Cert.VQ.Ref.run m' g') fun r h c => ?_
    obtain ⟨h1, h2, h3, h4, h5, h6, h7⟩ := h c
    rw [(hagree c).1, (hagree c).2] at h1 h2 h3 h4 h5
    exact ⟨h1.trans (Cert.VQ.Ref.zqSt_eq _ _ (fin c).1 (fin c).2), h2.trans (Cert.VQ.Ref.loss_eq _ _),
      h3.trans (Cert.VQ.Ref.idx_eq _ _), h4.trans (congrArg Cert.VQ.Ref.perplexity (Cert.VQ.Ref.counts_eq _ _)),
      h5.trans (Cert.VQ.Ref.counts_eq _ _), h6, h7⟩

theorem claim : Cert.Claim := ⟨Cert.Kernel.Gen.facts, Cert.KernelIdeal.Gen.facts, Cert.ReferenceIdeal.Gen.facts, Cert.Pre_nearest_unique.Gen.facts,
  fun m g _ => Cert.Kernel.Gen.frame m g, fun m g _ => Cert.Kernel.Gen.frame m g, fun m g _ => Cert.KernelIdeal.Gen.frame m g,
  fun m g _ => Cert.VQ.Ref.quiescent m g, fun m g _ => Cert.VQ.Ref.quiescent m g, trivial, same⟩

end Cert.Proof

end
